-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ preserves_Kernel_KernelIdeal
    ∧ algebraic_KernelIdeal_ReferenceIdeal_pre_finite_logits (hKernelIdeal := hKernelIdeal) (hReferenceIdeal := hReferenceIdeal) (hPre_finite_logits := hPre_finite_logits)
-- ==== Pre_finite_logits.lean ====
abbrev S8x19x512x512 : Shape := ⟨4, ![8, 19, 512, 512]⟩
abbrev S8x512x512 : Shape := ⟨3, ![8, 512, 512]⟩
abbrev S_ : Shape := ⟨0, ![]⟩

class Facts : Prop where
  bcast_S_S8x19x512x512 : S_.BroadcastsInDim S8x19x512x512 (![] : Fin 0 → Fin S8x19x512x512.rank)
  reducesTo_S8x19x512x512_S_d0_1_2_3 : S8x19x512x512.ReducesTo [0, 1, 2, 3] S_
  h_S_ : 0 < S_.numel

variable [Facts]

def fn {F : FTy → Type} [FloatOps F] (main_arg0 : FVec F S8x19x512x512 .f32) (main_arg1 : IVec S8x512x512 32) : IVec S_ 1 :=
  let main_v0 : FVec F S8x19x512x512 .f32 := Host.absf main_arg0
  let main_cst : FVec F S_ .f32 := constant S_ .f32 0x7F800000#32
  let main_v1 : FVec F S8x19x512x512 .f32 := broadcastInDim S8x19x512x512 ![] bcast_S_S8x19x512x512 main_cst
  let main_v2 : IVec S8x19x512x512 1 := cmpf .olt main_v0 main_v1
  let main_c : IVec S_ 1 := constantI S_ 1 1#1
  let main_v3 : IVec S_ 1 := (fun x v => Host.reduce IntOp.andi x v reducesTo_S8x19x512x512_S_d0_1_2_3 h_S_) main_v2 main_c
  main_v3
-- ==== Kernel.lean ====
abbrev S8x19x512x512 : Shape := ⟨4, ![8, 19, 512, 512]⟩
abbrev S8x512x512 : Shape := ⟨3, ![8, 512, 512]⟩
abbrev S_ : Shape := ⟨0, ![]⟩
abbrev S10 : Shape := ⟨1, ![10]⟩
abbrev S1 : Shape := ⟨1, ![1]⟩
abbrev S11 : Shape := ⟨1, ![11]⟩
abbrev S1x19x128x512 : Shape := ⟨4, ![1, 19, 128, 512]⟩
abbrev S1x128x512 : Shape := ⟨3, ![1, 128, 512]⟩
abbrev S1x1x128x512 : Shape := ⟨4, ![1, 1, 128, 512]⟩
abbrev S128x512 : Shape := ⟨2, ![128, 512]⟩
abbrev S2097152 : Shape := ⟨1, ![2097152]⟩
abbrev S32x160 : Shape := ⟨2, ![32, 160]⟩
abbrev S32x320 : Shape := ⟨2, ![32, 320]⟩
abbrev S4096 : Shape := ⟨1, ![4096]⟩
abbrev S160 : Shape := ⟨1, ![160]⟩
abbrev S320 : Shape := ⟨1, ![320]⟩
abbrev S16 : Shape := ⟨1, ![16]⟩
abbrev S1x160 : Shape := ⟨2, ![1, 160]⟩
abbrev S1x320 : Shape := ⟨2, ![1, 320]⟩
abbrev S32x10x16 : Shape := ⟨3, ![32, 10, 16]⟩
abbrev S32x20x16 : Shape := ⟨3, ![32, 20, 16]⟩
abbrev S1x1 : Shape := ⟨2, ![1, 1]⟩
abbrev S10x16 : Shape := ⟨2, ![10, 16]⟩
abbrev S20x16 : Shape := ⟨2, ![20, 16]⟩
abbrev S1x16 : Shape := ⟨2, ![1, 16]⟩

abbrev nBuf : Table → Nat
  | .hbm => 35
  | .local .tc .vmem => 10
  | .local .tc .smem => 2
  | .local .scVector .vmem => 4
  | _ => 0

abbrev bufTy : (tb : Table) → Fin (nBuf tb) → BufTy
  | .hbm, ⟨0, _⟩ => ⟨S8x19x512x512, .f32⟩
  | .hbm, ⟨1, _⟩ => ⟨S8x512x512, .i32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S10, .f32⟩
  | .hbm, ⟨10, _⟩ => ⟨S_, .f32⟩
  | .hbm, ⟨11, _⟩ => ⟨S10, .f32⟩
  | .hbm, ⟨12, _⟩ => ⟨S10, .f32⟩
  | .hbm, ⟨13, _⟩ => ⟨S1, .f32⟩
  | .hbm, ⟨14, _⟩ => ⟨S_, .f32⟩
  | .hbm, ⟨15, _⟩ => ⟨S10, .f32⟩
  | .hbm, ⟨16, _⟩ => ⟨S10, .f32⟩
  | .hbm, ⟨17, _⟩ => ⟨S10, .f32⟩
  | .hbm, ⟨18, _⟩ => ⟨S10, .f32⟩
  | .hbm, ⟨19, _⟩ => ⟨S1, .f32⟩
  | .hbm, ⟨20, _⟩ => ⟨S10, .f32⟩
  | .hbm, ⟨21, _⟩ => ⟨S10, .f32⟩
  | .hbm, ⟨22, _⟩ => ⟨S10, .f32⟩
  | .hbm, ⟨23, _⟩ => ⟨S1, .f32⟩
  | .hbm, ⟨24, _⟩ => ⟨S11, .f32⟩
  | .hbm, ⟨25, _⟩ => ⟨S8x512x512, .f32⟩
  | .hbm, ⟨26, _⟩ => ⟨S8x512x512, .i32⟩
  | .hbm, ⟨27, _⟩ => ⟨S2097152, .f32⟩
  | .hbm, ⟨28, _⟩ => ⟨S2097152, .i32⟩
  | .hbm, ⟨29, _⟩ => ⟨S32x160, .f32⟩
  | .hbm, ⟨30, _⟩ => ⟨S32x320, .f32⟩
  | .hbm, ⟨31, _⟩ => ⟨S32x10x16, .f32⟩
  | .hbm, ⟨32, _⟩ => ⟨S32x20x16, .f32⟩
  | .hbm, ⟨33, _⟩ => ⟨S1x1, .f32⟩
  | .hbm, ⟨34, _⟩ => ⟨S_, .f32⟩
  | .local .tc .vmem, ⟨0, _⟩ => ⟨S1x19x128x512, .f32⟩
  | .local .tc .vmem, ⟨1, _⟩ => ⟨S1x19x128x512, .f32⟩
  | .local .tc .vmem, ⟨2, _⟩ => ⟨S1x128x512, .i32⟩
  | .local .tc .vmem, ⟨3, _⟩ => ⟨S1x128x512, .i32⟩
  | .local .tc .vmem, ⟨4, _⟩ => ⟨S1x128x512, .f32⟩
  | .local .tc .vmem, ⟨5, _⟩ => ⟨S1x128x512, .f32⟩
  | .local .tc .vmem, ⟨6, _⟩ => ⟨S1x128x512, .i32⟩
  | .local .tc .vmem, ⟨7, _⟩ => ⟨S1x128x512, .i32⟩
  | .local .tc .vmem, ⟨8, _⟩ => ⟨S32x10x16, .f32⟩
  | .local .tc .vmem, ⟨9, _⟩ => ⟨S32x20x16, .f32⟩
  | .local .tc .smem, ⟨0, _⟩ => ⟨S11, .f32⟩
  | .local .tc .smem, ⟨1, _⟩ => ⟨S1x1, .f32⟩
  | .local .scVector .vmem, ⟨0, _⟩ => ⟨S4096, .f32⟩
  | .local .scVector .vmem, ⟨1, _⟩ => ⟨S4096, .i32⟩
  | .local .scVector .vmem, ⟨2, _⟩ => ⟨S160, .f32⟩
  | .local .scVector .vmem, ⟨3, _⟩ => ⟨S320, .f32⟩
  | _, _ => ⟨S8x19x512x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => false
  | ⟨10, _⟩ => false
  | ⟨11, _⟩ => false
  | ⟨12, _⟩ => false
  | ⟨13, _⟩ => true
  | ⟨14, _⟩ => true
  | ⟨15, _⟩ => true
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_v4 : Ref sig .tc := ⟨.hbm, 9, rfl⟩
abbrev main_call0_cst_0 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_cst_1 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_v0 : Ref sig .tc := ⟨.hbm, 24, rfl⟩
abbrev main_v1_0 : Ref sig .tc := ⟨.hbm, 25, rfl⟩
abbrev main_v1_1 : Ref sig .tc := ⟨.hbm, 26, rfl⟩
abbrev main_v2 : Ref sig .tc := ⟨.hbm, 27, rfl⟩
abbrev main_v3 : Ref sig .tc := ⟨.hbm, 28, rfl⟩
abbrev main_v4_0 : Ref sig .tc := ⟨.hbm, 29, rfl⟩
abbrev main_v4_1 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v2_scv : Ref sig .scVector := ⟨.hbm, 27, rfl⟩
abbrev main_v3_scv : Ref sig .scVector := ⟨.hbm, 28, rfl⟩
abbrev main_v4_0_scv : Ref sig .scVector := ⟨.hbm, 29, rfl⟩
abbrev main_v4_1_scv : Ref sig .scVector := ⟨.hbm, 30, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc2_stg0_0 : Ref sig .tc := ⟨.vmem, 8, rfl⟩
abbrev cc2_stg1_0 : Ref sig .tc := ⟨.vmem, 9, rfl⟩
abbrev cc0_stg0_0 : Ref sig .tc := ⟨.smem, 0, rfl⟩
abbrev cc2_stg2_0 : Ref sig .tc := ⟨.smem, 1, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc2_sem0_0 : DmaSem sig := 13
abbrev cc2_sem1_0 : DmaSem sig := 14
abbrev cc2_sem2_0 : DmaSem sig := 15
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![8, 4], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S11 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x19x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![2, 16], ![false, false]⟩

@[reducible] def k1_t1_loop : Scf.Loop 32 :=
  let c0_i32_11 : BitVec 32 := 0#32
  let c16_i32 : BitVec 32 := 16#32
  let v36 : BitVec 32 := Scalar.addi c0_i32_11 c16_i32
  let c1_i32 : BitVec 32 := 1#32
  ⟨c0_i32_11, v36, c1_i32⟩
def k1_off1 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_11 : BitVec 32 := 0#32
  let c1_i32 : BitVec 32 := 1#32
  let arg10 : BitVec 32 := Scf.iv c0_i32_11 c1_i32 k1_t1
  let c4096_i32 : BitVec 32 := 4096#32
  let v37 : BitVec 32 := Scalar.muli arg10 c4096_i32
  let v38 : BitVec 32 := Scalar.addi v2 v37
  ![v38.toNat]
@[reducible] def k1_t2_loop : Scf.Loop 32 :=
  let c0_i32_13 : BitVec 32 := 0#32
  let c256_i32 : BitVec 32 := 256#32
  let v39 : BitVec 32 := Scalar.addi c0_i32_13 c256_i32
  let c1_i32_14 : BitVec 32 := 1#32
  ⟨c0_i32_13, v39, c1_i32_14⟩
def k1_off2 (k1_t2 : Fin k1_t2_loop.trips) : Fin 1 → Nat :=
  let c0_i32_13 : BitVec 32 := 0#32
  let c1_i32_14 : BitVec 32 := 1#32
  let arg11 : BitVec 32 := Scf.iv c0_i32_13 c1_i32_14 k1_t2
  let c16_i32_16 : BitVec 32 := 16#32
  let v40 : BitVec 32 := Scalar.muli arg11 c16_i32_16
  let v41 : Index := Scalar.indexCast v40
  ![v41.toNat]

def k1_chk1 (v50 : IVec S16 32) : Prop :=
  (∀ a x, ((![v50] : Fin 1 → IVec S16 32) a x).toNat < S160.size a)
theorem k1_idx1_inb : ∀ (v50 : IVec S16 32) (k1_hw1 : k1_chk1 v50), ∀ a x, ((![v50] : Fin 1 → IVec S16 32) a x).toNat < S160.size a := fun v50 k1_hw1 => k1_hw1

def k1_chk2 (v53 : IVec S16 32) : Prop :=
  (∀ a x, ((![v53] : Fin 1 → IVec S16 32) a x).toNat < S320.size a)
theorem k1_idx2_inb : ∀ (v53 : IVec S16 32) (k1_hw2 : k1_chk2 v53), ∀ a x, ((![v53] : Fin 1 → IVec S16 32) a x).toNat < S320.size a := fun v53 k1_hw2 => k1_hw2
def k1_off3 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_13_r2 : BitVec 32 := 0#32
  ![v1.toNat, 0]
def k1_off4 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_13_r3 : BitVec 32 := 0#32
  ![v1.toNat, 0]
abbrev grid2 : Pipeline.Grid := .none

abbrev stage2_0 : Fin 1 → Memref sig .tc .vmem S32x10x16 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S32x20x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .smem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x19x512x512 : Shape := ⟨4, ![8, 19, 512, 512]⟩
abbrev S8x512x512 : Shape := ⟨3, ![8, 512, 512]⟩
abbrev S_ : Shape := ⟨0, ![]⟩
abbrev S8x1x512x512 : Shape := ⟨4, ![8, 1, 512, 512]⟩
abbrev S10 : Shape := ⟨1, ![10]⟩
abbrev S1 : Shape := ⟨1, ![1]⟩
abbrev S11 : Shape := ⟨1, ![11]⟩
abbrev S2097152 : Shape := ⟨1, ![2097152]⟩
abbrev S1x2097152 : Shape := ⟨2, ![1, 2097152]⟩
abbrev S10x1 : Shape := ⟨2, ![10, 1]⟩
abbrev S10x2097152 : Shape := ⟨2, ![10, 2097152]⟩

abbrev nBuf : Space → Nat
  | .hbm => 99
  | .vmem => 0
  | .smem => 0
  | _ => 0

abbrev bufTy : (tb : Table) → Fin (tcTables nBuf tb) → BufTy
  | .hbm, ⟨0, _⟩ => ⟨S8x19x512x512, .f32⟩
  | .hbm, ⟨1, _⟩ => ⟨S8x512x512, .i32⟩
  | .hbm, ⟨2, _⟩ => ⟨S_, .f32⟩
  | .hbm, ⟨3, _⟩ => ⟨S8x512x512, .f32⟩
  | .hbm, ⟨4, _⟩ => ⟨S_, .f32⟩
  | .hbm, ⟨5, _⟩ => ⟨S8x512x512, .f32⟩
  | .hbm, ⟨6, _⟩ => ⟨S8x512x512, .f32⟩
  | .hbm, ⟨7, _⟩ => ⟨S8x1x512x512, .f32⟩
  | .hbm, ⟨8, _⟩ => ⟨S8x19x512x512, .f32⟩
  | .hbm, ⟨9, _⟩ => ⟨S8x19x512x512, .f32⟩
  | .hbm, ⟨10, _⟩ => ⟨S8x19x512x512, .f32⟩
  | .hbm, ⟨11, _⟩ => ⟨S_, .f32⟩
  | .hbm, ⟨12, _⟩ => ⟨S8x512x512, .f32⟩
  | .hbm, ⟨13, _⟩ => ⟨S8x1x512x512, .f32⟩
  | .hbm, ⟨14, _⟩ => ⟨S8x19x512x512, .f32⟩
  | .hbm, ⟨15, _⟩ => ⟨S8x19x512x512, .f32⟩
  | .hbm, ⟨16, _⟩ => ⟨S_, .f32⟩
  | .hbm, ⟨17, _⟩ => ⟨S8x512x512, .f32⟩
  | .hbm, ⟨18, _⟩ => ⟨S8x19x512x512, .i32⟩
  | .hbm, ⟨19, _⟩ => ⟨S_, .f32⟩
  | .hbm, ⟨20, _⟩ => ⟨S_, .i32⟩
  | .hbm, ⟨21, _⟩ => ⟨S8x512x512, .f32⟩
  | .hbm, ⟨22, _⟩ => ⟨S8x512x512, .i32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S10, .f32⟩
  | .hbm, ⟨31, _⟩ => ⟨S_, .f32⟩
  | .hbm, ⟨32, _⟩ => ⟨S10, .f32⟩
  | .hbm, ⟨33, _⟩ => ⟨S10, .f32⟩
  | .hbm, ⟨34, _⟩ => ⟨S1, .f32⟩
  | .hbm, ⟨35, _⟩ => ⟨S_, .f32⟩
  | .hbm, ⟨36, _⟩ => ⟨S10, .f32⟩
  | .hbm, ⟨37, _⟩ => ⟨S10, .f32⟩
  | .hbm, ⟨38, _⟩ => ⟨S10, .f32⟩
  | .hbm, ⟨39, _⟩ => ⟨S10, .f32⟩
  | .hbm, ⟨40, _⟩ => ⟨S1, .f32⟩
  | .hbm, ⟨41, _⟩ => ⟨S10, .f32⟩
  | .hbm, ⟨42, _⟩ => ⟨S10, .f32⟩
  | .hbm, ⟨43, _⟩ => ⟨S10, .f32⟩
  | .hbm, ⟨44, _⟩ => ⟨S1, .f32⟩
  | .hbm, ⟨45, _⟩ => ⟨S11, .f32⟩
  | .hbm, ⟨46, _⟩ => ⟨S10, .f32⟩
  | .hbm, ⟨47, _⟩ => ⟨S10, .f32⟩
  | .hbm, ⟨48, _⟩ => ⟨S2097152, .f32⟩
  | .hbm, ⟨49, _⟩ => ⟨S8x512x512, .i1⟩
  | .hbm, ⟨50, _⟩ => ⟨S2097152, .i1⟩
  | .hbm, ⟨51, _⟩ => ⟨S1x2097152, .f32⟩
  | .hbm, ⟨52, _⟩ => ⟨S10x1, .f32⟩
  | .hbm, ⟨53, _⟩ => ⟨S10x2097152, .f32⟩
  | .hbm, ⟨54, _⟩ => ⟨S10x2097152, .f32⟩
  | .hbm, ⟨55, _⟩ => ⟨S10x2097152, .i1⟩
  | .hbm, ⟨56, _⟩ => ⟨S1x2097152, .f32⟩
  | .hbm, ⟨57, _⟩ => ⟨S10x1, .f32⟩
  | .hbm, ⟨58, _⟩ => ⟨S10x2097152, .f32⟩
  | .hbm, ⟨59, _⟩ => ⟨S10x2097152, .f32⟩
  | .hbm, ⟨60, _⟩ => ⟨S10x2097152, .i1⟩
  | .hbm, ⟨61, _⟩ => ⟨S10x2097152, .i1⟩
  | .hbm, ⟨62, _⟩ => ⟨S1x2097152, .f32⟩
  | .hbm, ⟨63, _⟩ => ⟨S_, .f32⟩
  | .hbm, ⟨64, _⟩ => ⟨S_, .f32⟩
  | .hbm, ⟨65, _⟩ => ⟨S10x2097152, .f32⟩
  | .hbm, ⟨66, _⟩ => ⟨S10x2097152, .f32⟩
  | .hbm, ⟨67, _⟩ => ⟨S10x2097152, .f32⟩
  | .hbm, ⟨68, _⟩ => ⟨S_, .f32⟩
  | .hbm, ⟨69, _⟩ => ⟨S10, .f32⟩
  | .hbm, ⟨70, _⟩ => ⟨S10x2097152, .i32⟩
  | .hbm, ⟨71, _⟩ => ⟨S_, .i32⟩
  | .hbm, ⟨72, _⟩ => ⟨S10, .i32⟩
  | .hbm, ⟨73, _⟩ => ⟨S10, .f32⟩
  | .hbm, ⟨74, _⟩ => ⟨S1x2097152, .i1⟩
  | .hbm, ⟨75, _⟩ => ⟨S10x2097152, .i1⟩
  | .hbm, ⟨76, _⟩ => ⟨S10x2097152, .i1⟩
  | .hbm, ⟨77, _⟩ => ⟨S10x2097152, .i32⟩
  | .hbm, ⟨78, _⟩ => ⟨S_, .i32⟩
  | .hbm, ⟨79, _⟩ => ⟨S10, .i32⟩
  | .hbm, ⟨80, _⟩ => ⟨S10, .f32⟩
  | .hbm, ⟨81, _⟩ => ⟨S_, .f32⟩
  | .hbm, ⟨82, _⟩ => ⟨S10, .f32⟩
  | .hbm, ⟨83, _⟩ => ⟨S10, .f32⟩
  | .hbm, ⟨84, _⟩ => ⟨S10, .f32⟩
  | .hbm, ⟨85, _⟩ => ⟨S_, .f32⟩
  | .hbm, ⟨86, _⟩ => ⟨S10, .f32⟩
  | .hbm, ⟨87, _⟩ => ⟨S10, .f32⟩
  | .hbm, ⟨88, _⟩ => ⟨S10, .f32⟩
  | .hbm, ⟨89, _⟩ => ⟨S10, .f32⟩
  | .hbm, ⟨90, _⟩ => ⟨S10, .f32⟩
  | .hbm, ⟨91, _⟩ => ⟨S10, .f32⟩
  | .hbm, ⟨92, _⟩ => ⟨S_, .f32⟩
  | .hbm, ⟨93, _⟩ => ⟨S_, .f32⟩
  | .hbm, ⟨94, _⟩ => ⟨S10, .f32⟩
  | .hbm, ⟨95, _⟩ => ⟨S10, .f32⟩
  | .hbm, ⟨96, _⟩ => ⟨S10, .f32⟩
  | .hbm, ⟨97, _⟩ => ⟨S_, .f32⟩
  | .hbm, ⟨98, _⟩ => ⟨S_, .f32⟩
  | _, _ => ⟨S8x19x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_call0_v0 : Ref sig .tc := ⟨.hbm, 18, rfl⟩
abbrev main_call0_cst : Ref sig .tc := ⟨.hbm, 19, rfl⟩
abbrev main_call0_c : Ref sig .tc := ⟨.hbm, 20, rfl⟩
abbrev main_call0_v1_0 : Ref sig .tc := ⟨.hbm, 21, rfl⟩
abbrev main_v12 : Ref sig .tc := ⟨.hbm, 22, rfl⟩
abbrev main_cst_3 : Ref sig .tc := ⟨.hbm, 23, rfl⟩
abbrev main_cst_4 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_cst : Ref sig .tc := ⟨.hbm, 28, rfl⟩
abbrev main_call1_v3 : Ref sig .tc := ⟨.hbm, 29, rfl⟩
abbrev main_call1_v4 : Ref sig .tc := ⟨.hbm, 30, rfl⟩
abbrev main_call1_cst_0 : Ref sig .tc := ⟨.hbm, 31, rfl⟩
abbrev main_call1_v5 : Ref sig .tc := ⟨.hbm, 32, rfl⟩
abbrev main_call1_v6 : Ref sig .tc := ⟨.hbm, 33, rfl⟩
abbrev main_call1_v7 : Ref sig .tc := ⟨.hbm, 34, rfl⟩
abbrev main_call1_cst_1 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_v12 : Ref sig .tc := ⟨.hbm, 40, rfl⟩
abbrev main_call1_v13 : Ref sig .tc := ⟨.hbm, 41, rfl⟩
abbrev main_call1_v14 : Ref sig .tc := ⟨.hbm, 42, rfl⟩
abbrev main_call1_v15 : Ref sig .tc := ⟨.hbm, 43, rfl⟩
abbrev main_call1_v16 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_cst_5 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_v31 : Ref sig .tc := ⟨.hbm, 67, rfl⟩
abbrev main_cst_6 : Ref sig .tc := ⟨.hbm, 68, rfl⟩
abbrev main_v32 : Ref sig .tc := ⟨.hbm, 69, rfl⟩
abbrev main_v33 : Ref sig .tc := ⟨.hbm, 70, rfl⟩
abbrev main_c : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_c_7 : Ref sig .tc := ⟨.hbm, 78, rfl⟩
abbrev main_v40 : Ref sig .tc := ⟨.hbm, 79, rfl⟩
abbrev main_v41 : Ref sig .tc := ⟨.hbm, 80, rfl⟩
abbrev main_cst_8 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_cst_9 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_cst_10 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_cst_11 : Ref sig .tc := ⟨.hbm, 97, rfl⟩
abbrev main_v55 : Ref sig .tc := ⟨.hbm, 98, rfl⟩

abbrev nD : Nat := 1
abbrev τ : Topo := Topo.v7x

variable {F : FTy → Type} [FloatOps F]
-- ==== Proof.RefRun.lean ====
/-
  The reference's run: a straight line of host operations, in five stretches, and what each stretch leaves as a function of
  what it finds.
-/
module

public import proofs.«01_k».proof.Defs
public import proofs.«01_k».proof.Proof.Gen.ReferenceIdeal
public import Idealize.ShloMosaic.Lib.Quiescent
public import Idealize.ShloMosaic.Lib.StableHlo.RunHlo
public import Idealize.ShloMosaic.Lib.StableHlo.RunRead

@[expose] public section

set_option maxRecDepth 16384

noncomputable section

namespace Cert.Proof.Ref

open Cert.ReferenceIdeal Cert.ReferenceIdeal.Gen
open Idealize.ShloMosaic Idealize.ShloMosaic.TcCoe
open Idealize.SL.Sem

variable {F : FTy → Type} [FloatOps F]

/-- The stretch of the softmax, its largest entry and that entry's place. -/
abbrev ops1 : List (HloOp τ sig (Elt F)) :=
  [StableHlo.nullary main_cst (constant S_ .f32 0xFF800000#32),
   StableHlo.binary main_arg0 main_cst main_v0 ((fun x v => Host.reduce FloatOps.maximumf x v reducesTo_S8x19x512x512_S8x512x512_d1 h_S_) : (⟨S8x19x512x512, .f32⟩ : BufTy).Contents (Elt F) → (⟨S_, .f32⟩ : BufTy).Contents (Elt F) → (⟨S8x512x512, .f32⟩ : BufTy).Contents (Elt F)),
   StableHlo.nullary main_cst_0 (constant S_ .f32 0xFF800000#32),
   StableHlo.unary main_cst_0 main_v1 (broadcastInDim S8x512x512 ![] bcast_S_S8x512x512 : (⟨S_, .f32⟩ : BufTy).Contents (Elt F) → (⟨S8x512x512, .f32⟩ : BufTy).Contents (Elt F)),
   StableHlo.binary main_v1 main_v0 main_v2 (maximumf : (⟨S8x512x512, .f32⟩ : BufTy).Contents (Elt F) → (⟨S8x512x512, .f32⟩ : BufTy).Contents (Elt F) → (⟨S8x512x512, .f32⟩ : BufTy).Contents (Elt F)),
   StableHlo.unary main_v2 main_v3 (broadcastInDim S8x1x512x512 ![0, 2, 3] bcast_S8x512x512_S8x1x512x512_0_2_3 : (⟨S8x512x512, .f32⟩ : BufTy).Contents (Elt F) → (⟨S8x1x512x512, .f32⟩ : BufTy).Contents (Elt F)),
   StableHlo.unary main_v3 main_v4 (broadcastInDim S8x19x512x512 ![0, 1, 2, 3] bcast_S8x1x512x512_S8x19x512x512_0_1_2_3 : (⟨S8x1x512x512, .f32⟩ : BufTy).Contents (Elt F) → (⟨S8x19x512x512, .f32⟩ : BufTy).Contents (Elt F)),
   StableHlo.binary main_arg0 main_v4 main_v5 (subf : (⟨S8x19x512x512, .f32⟩ : BufTy).Contents (Elt F) → (⟨S8x19x512x512, .f32⟩ : BufTy).Contents (Elt F) → (⟨S8x19x512x512, .f32⟩ : BufTy).Contents (Elt F)),
   StableHlo.unary main_v5 main_v6 (Host.exp : (⟨S8x19x512x512, .f32⟩ : BufTy).Contents (Elt F) → (⟨S8x19x512x512, .f32⟩ : BufTy).Contents (Elt F)),
   StableHlo.nullary main_cst_1 (constant S_ .f32 0x00000000#32),
   StableHlo.binary main_v6 main_cst_1 main_v7 ((fun x v => Host.reduceAdd x v reducesTo_S8x19x512x512_S8x512x512_d1 h_S_) : (⟨S8x19x512x512, .f32⟩ : BufTy).Contents (Elt F) → (⟨S_, .f32⟩ : BufTy).Contents (Elt F) → (⟨S8x512x512, .f32⟩ : BufTy).Contents (Elt F)),
   StableHlo.unary main_v7 main_v8 (broadcastInDim S8x1x512x512 ![0, 2, 3] bcast_S8x512x512_S8x1x512x512_0_2_3 : (⟨S8x512x512, .f32⟩ : BufTy).Contents (Elt F) → (⟨S8x1x512x512, .f32⟩ : BufTy).Contents (Elt F)),
   StableHlo.unary main_v8 main_v9 (broadcastInDim S8x19x512x512 ![0, 1, 2, 3] bcast_S8x1x512x512_S8x19x512x512_0_1_2_3 : (⟨S8x1x512x512, .f32⟩ : BufTy).Contents (Elt F) → (⟨S8x19x512x512, .f32⟩ : BufTy).Contents (Elt F)),
   StableHlo.binary main_v6 main_v9 main_v10 (Host.divf : (⟨S8x19x512x512, .f32⟩ : BufTy).Contents (Elt F) → (⟨S8x19x512x512, .f32⟩ : BufTy).Contents (Elt F) → (⟨S8x19x512x512, .f32⟩ : BufTy).Contents (Elt F)),
   StableHlo.nullary main_cst_2 (constant S_ .f32 0xFF800000#32),
   StableHlo.binary main_v10 main_cst_2 main_v11 ((fun x v => Host.reduce FloatOps.maximumf x v reducesTo_S8x19x512x512_S8x512x512_d1 h_S_) : (⟨S8x19x512x512, .f32⟩ : BufTy).Contents (Elt F) → (⟨S_, .f32⟩ : BufTy).Contents (Elt F) → (⟨S8x512x512, .f32⟩ : BufTy).Contents (Elt F)),
   StableHlo.nullary main_call0_v0 (iotaInDim S8x19x512x512 32 1),
   StableHlo.nullary main_call0_cst (constant S_ .f32 0xFF800000#32),
   StableHlo.nullary main_call0_c (constantI S_ 32 0#32),
   StableHlo.quaternary main_v10 main_call0_v0 main_call0_cst main_call0_c main_call0_v1_0 (fun x y u v j => (Host.argReduce reducer_argmax_f32_i32 x y u v reducesTo_S8x19x512x512_S8x512x512_d1 h_S_ j).1),
   StableHlo.quaternary main_v10 main_call0_v0 main_call0_cst main_call0_c main_v12 (fun x y u v j => (Host.argReduce reducer_argmax_f32_i32 x y u v reducesTo_S8x19x512x512_S8x512x512_d1 h_S_ j).2)]

/-- The stretch of the eleven bounds. -/
abbrev ops2 : List (HloOp τ sig (Elt F)) :=
  [StableHlo.nullary main_cst_3 (constant S_ .f32 0x00000000#32),
   StableHlo.nullary main_cst_4 (constant S_ .f32 0x3F800000#32),
   StableHlo.unary main_cst_3 main_call1_v0 id,
   StableHlo.unary main_cst_4 main_call1_v1 id,
   StableHlo.binary main_call1_v1 main_call1_v0 main_call1_v2 subf,
   StableHlo.nullary main_call1_cst (constant S_ .f32 0x41200000#32),
   StableHlo.binary main_call1_v2 main_call1_cst main_call1_v3 Host.divf,
   StableHlo.nullary main_call1_v4 (sitofp .f32 (iotaInDim S10 32 0)),
   StableHlo.nullary main_call1_cst_0 (constant S_ .f32 0x41200000#32),
   StableHlo.unary main_call1_cst_0 main_call1_v5 (broadcastInDim S10 ![] bcast_S_S10),
   StableHlo.binary main_call1_v4 main_call1_v5 main_call1_v6 Host.divf,
   StableHlo.reshape main_call1_v0 main_call1_v7 (rfl : (.f32 : EltTy) = .f32) shapeCasts_S_S1,
   StableHlo.nullary main_call1_cst_1 (constant S_ .f32 0x3F800000#32),
   StableHlo.unary main_call1_cst_1 main_call1_v8 (broadcastInDim S10 ![] bcast_S_S10),
   StableHlo.binary main_call1_v8 main_call1_v6 main_call1_v9 subf,
   StableHlo.unary main_call1_v7 main_call1_v10 (broadcastInDim S10 ![0] bcast_S1_S10_0),
   StableHlo.binary main_call1_v10 main_call1_v9 main_call1_v11 mulf,
   StableHlo.reshape main_call1_v1 main_call1_v12 (rfl : (.f32 : EltTy) = .f32) shapeCasts_S_S1,
   StableHlo.unary main_call1_v12 main_call1_v13 (broadcastInDim S10 ![0] bcast_S1_S10_0),
   StableHlo.binary main_call1_v13 main_call1_v6 main_call1_v14 mulf,
   StableHlo.binary main_call1_v11 main_call1_v14 main_call1_v15 addf,
   StableHlo.unary main_call1_v1 main_call1_v16 (broadcastInDim S1 ![] bcast_S_S1),
   StableHlo.binary main_call1_v15 main_call1_v16 main_v13 (fun a b => concatenate S11 0 [⟨S10, a⟩, ⟨S1, b⟩] concatenates_S10_S1_S11_d0)]

/-- The stretch of which pixel falls in which bin, and which is right. -/
abbrev ops3 : List (HloOp τ sig (Elt F)) :=
  [StableHlo.unary main_v13 main_v14 ((extractStridedSlice S10 ![0] · slices_S11_S10_0) : (⟨S11, .f32⟩ : BufTy).Contents (Elt F) → (⟨S10, .f32⟩ : BufTy).Contents (Elt F)),
   StableHlo.unary main_v13 main_v15 ((extractStridedSlice S10 ![1] · slices_S11_S10_1) : (⟨S11, .f32⟩ : BufTy).Contents (Elt F) → (⟨S10, .f32⟩ : BufTy).Contents (Elt F)),
   StableHlo.reshape main_v11 main_v16 (rfl : (.f32 : EltTy) = .f32) shapeCasts_S8x512x512_S2097152,
   StableHlo.binary main_v12 main_arg1 main_v17 (cmpi .eq : (⟨S8x512x512, .i32⟩ : BufTy).Contents (Elt F) → (⟨S8x512x512, .i32⟩ : BufTy).Contents (Elt F) → (⟨S8x512x512, .i1⟩ : BufTy).Contents (Elt F)),
   StableHlo.reshape main_v17 main_v18 (rfl : (.i1 : EltTy) = .i1) shapeCasts_S8x512x512_S2097152,
   StableHlo.unary main_v16 main_v19 (broadcastInDim S1x2097152 ![1] bcast_S2097152_S1x2097152_1 : (⟨S2097152, .f32⟩ : BufTy).Contents (Elt F) → (⟨S1x2097152, .f32⟩ : BufTy).Contents (Elt F)),
   StableHlo.unary main_v14 main_v20 (broadcastInDim S10x1 ![0] bcast_S10_S10x1_0 : (⟨S10, .f32⟩ : BufTy).Contents (Elt F) → (⟨S10x1, .f32⟩ : BufTy).Contents (Elt F)),
   StableHlo.unary main_v19 main_v21 (broadcastInDim S10x2097152 ![0, 1] bcast_S1x2097152_S10x2097152_0_1 : (⟨S1x2097152, .f32⟩ : BufTy).Contents (Elt F) → (⟨S10x2097152, .f32⟩ : BufTy).Contents (Elt F)),
   StableHlo.unary main_v20 main_v22 (broadcastInDim S10x2097152 ![0, 1] bcast_S10x1_S10x2097152_0_1 : (⟨S10x1, .f32⟩ : BufTy).Contents (Elt F) → (⟨S10x2097152, .f32⟩ : BufTy).Contents (Elt F)),
   StableHlo.binary main_v21 main_v22 main_v23 (cmpf .ogt : (⟨S10x2097152, .f32⟩ : BufTy).Contents (Elt F) → (⟨S10x2097152, .f32⟩ : BufTy).Contents (Elt F) → (⟨S10x2097152, .i1⟩ : BufTy).Contents (Elt F)),
   StableHlo.unary main_v16 main_v24 (broadcastInDim S1x2097152 ![1] bcast_S2097152_S1x2097152_1 : (⟨S2097152, .f32⟩ : BufTy).Contents (Elt F) → (⟨S1x2097152, .f32⟩ : BufTy).Contents (Elt F)),
   StableHlo.unary main_v15 main_v25 (broadcastInDim S10x1 ![0] bcast_S10_S10x1_0 : (⟨S10, .f32⟩ : BufTy).Contents (Elt F) → (⟨S10x1, .f32⟩ : BufTy).Contents (Elt F)),
   StableHlo.unary main_v24 main_v26 (broadcastInDim S10x2097152 ![0, 1] bcast_S1x2097152_S10x2097152_0_1 : (⟨S1x2097152, .f32⟩ : BufTy).Contents (Elt F) → (⟨S10x2097152, .f32⟩ : BufTy).Contents (Elt F)),
   StableHlo.unary main_v25 main_v27 (broadcastInDim S10x2097152 ![0, 1] bcast_S10x1_S10x2097152_0_1 : (⟨S10x1, .f32⟩ : BufTy).Contents (Elt F) → (⟨S10x2097152, .f32⟩ : BufTy).Contents (Elt F)),
   StableHlo.binary main_v26 main_v27 main_v28 (cmpf .ole : (⟨S10x2097152, .f32⟩ : BufTy).Contents (Elt F) → (⟨S10x2097152, .f32⟩ : BufTy).Contents (Elt F) → (⟨S10x2097152, .i1⟩ : BufTy).Contents (Elt F)),
   StableHlo.binary main_v23 main_v28 main_v29 (andi : (⟨S10x2097152, .i1⟩ : BufTy).Contents (Elt F) → (⟨S10x2097152, .i1⟩ : BufTy).Contents (Elt F) → (⟨S10x2097152, .i1⟩ : BufTy).Contents (Elt F))]

/-- The stretch of each bin's sum, count and hits. -/
abbrev ops4 : List (HloOp τ sig (Elt F)) :=
  [StableHlo.unary main_v16 main_v30 (broadcastInDim S1x2097152 ![1] bcast_S2097152_S1x2097152_1 : (⟨S2097152, .f32⟩ : BufTy).Contents (Elt F) → (⟨S1x2097152, .f32⟩ : BufTy).Contents (Elt F)),
   StableHlo.nullary main_cst_5 (constant S_ .f32 0x00000000#32),
   StableHlo.unary main_cst_5 main_call2_v0 id,
   StableHlo.unary main_v30 main_call2_v1 (broadcastInDim S10x2097152 ![0, 1] bcast_S1x2097152_S10x2097152_0_1),
   StableHlo.unary main_call2_v0 main_call2_v2 (broadcastInDim S10x2097152 ![] bcast_S_S10x2097152),
   StableHlo.ternary main_v29 main_call2_v1 main_call2_v2 main_v31 select,
   StableHlo.nullary main_cst_6 (constant S_ .f32 0x00000000#32),
   StableHlo.binary main_v31 main_cst_6 main_v32 ((fun x v => Host.reduceAdd x v reducesTo_S10x2097152_S10_d1 h_S_) : (⟨S10x2097152, .f32⟩ : BufTy).Contents (Elt F) → (⟨S_, .f32⟩ : BufTy).Contents (Elt F) → (⟨S10, .f32⟩ : BufTy).Contents (Elt F)),
   StableHlo.unary main_v29 main_v33 ((extui 32 · natLt_1_32) : (⟨S10x2097152, .i1⟩ : BufTy).Contents (Elt F) → (⟨S10x2097152, .i32⟩ : BufTy).Contents (Elt F)),
   StableHlo.nullary main_c (constantI S_ 32 0#32),
   StableHlo.binary main_v33 main_c main_v34 ((fun x v => Host.reduce IntOp.addi x v reducesTo_S10x2097152_S10_d1 h_S_) : (⟨S10x2097152, .i32⟩ : BufTy).Contents (Elt F) → (⟨S_, .i32⟩ : BufTy).Contents (Elt F) → (⟨S10, .i32⟩ : BufTy).Contents (Elt F)),
   StableHlo.unary main_v34 main_v35 (sitofp .f32 : (⟨S10, .i32⟩ : BufTy).Contents (Elt F) → (⟨S10, .f32⟩ : BufTy).Contents (Elt F)),
   StableHlo.unary main_v18 main_v36 (broadcastInDim S1x2097152 ![1] bcast_S2097152_S1x2097152_1 : (⟨S2097152, .i1⟩ : BufTy).Contents (Elt F) → (⟨S1x2097152, .i1⟩ : BufTy).Contents (Elt F)),
   StableHlo.unary main_v36 main_v37 (broadcastInDim S10x2097152 ![0, 1] bcast_S1x2097152_S10x2097152_0_1 : (⟨S1x2097152, .i1⟩ : BufTy).Contents (Elt F) → (⟨S10x2097152, .i1⟩ : BufTy).Contents (Elt F)),
   StableHlo.binary main_v29 main_v37 main_v38 (andi : (⟨S10x2097152, .i1⟩ : BufTy).Contents (Elt F) → (⟨S10x2097152, .i1⟩ : BufTy).Contents (Elt F) → (⟨S10x2097152, .i1⟩ : BufTy).Contents (Elt F)),
   StableHlo.unary main_v38 main_v39 ((extui 32 · natLt_1_32) : (⟨S10x2097152, .i1⟩ : BufTy).Contents (Elt F) → (⟨S10x2097152, .i32⟩ : BufTy).Contents (Elt F)),
   StableHlo.nullary main_c_7 (constantI S_ 32 0#32),
   StableHlo.binary main_v39 main_c_7 main_v40 ((fun x v => Host.reduce IntOp.addi x v reducesTo_S10x2097152_S10_d1 h_S_) : (⟨S10x2097152, .i32⟩ : BufTy).Contents (Elt F) → (⟨S_, .i32⟩ : BufTy).Contents (Elt F) → (⟨S10, .i32⟩ : BufTy).Contents (Elt F)),
   StableHlo.unary main_v40 main_v41 (sitofp .f32 : (⟨S10, .i32⟩ : BufTy).Contents (Elt F) → (⟨S10, .f32⟩ : BufTy).Contents (Elt F))]

/-- The stretch of the weighted error. -/
abbrev ops5 : List (HloOp τ sig (Elt F)) :=
  [StableHlo.nullary main_cst_8 (constant S_ .f32 0x29E12E13#32),
   StableHlo.unary main_cst_8 main_v42 (broadcastInDim S10 ![] bcast_S_S10 : (⟨S_, .f32⟩ : BufTy).Contents (Elt F) → (⟨S10, .f32⟩ : BufTy).Contents (Elt F)),
   StableHlo.binary main_v35 main_v42 main_v43 (addf : (⟨S10, .f32⟩ : BufTy).Contents (Elt F) → (⟨S10, .f32⟩ : BufTy).Contents (Elt F) → (⟨S10, .f32⟩ : BufTy).Contents (Elt F)),
   StableHlo.binary main_v41 main_v43 main_v44 (Host.divf : (⟨S10, .f32⟩ : BufTy).Contents (Elt F) → (⟨S10, .f32⟩ : BufTy).Contents (Elt F) → (⟨S10, .f32⟩ : BufTy).Contents (Elt F)),
   StableHlo.nullary main_cst_9 (constant S_ .f32 0x29E12E13#32),
   StableHlo.unary main_cst_9 main_v45 (broadcastInDim S10 ![] bcast_S_S10 : (⟨S_, .f32⟩ : BufTy).Contents (Elt F) → (⟨S10, .f32⟩ : BufTy).Contents (Elt F)),
   StableHlo.binary main_v35 main_v45 main_v46 (addf : (⟨S10, .f32⟩ : BufTy).Contents (Elt F) → (⟨S10, .f32⟩ : BufTy).Contents (Elt F) → (⟨S10, .f32⟩ : BufTy).Contents (Elt F)),
   StableHlo.binary main_v32 main_v46 main_v47 (Host.divf : (⟨S10, .f32⟩ : BufTy).Contents (Elt F) → (⟨S10, .f32⟩ : BufTy).Contents (Elt F) → (⟨S10, .f32⟩ : BufTy).Contents (Elt F)),
   StableHlo.binary main_v44 main_v47 main_v48 (subf : (⟨S10, .f32⟩ : BufTy).Contents (Elt F) → (⟨S10, .f32⟩ : BufTy).Contents (Elt F) → (⟨S10, .f32⟩ : BufTy).Contents (Elt F)),
   StableHlo.unary main_v48 main_v49 (Host.absf : (⟨S10, .f32⟩ : BufTy).Contents (Elt F) → (⟨S10, .f32⟩ : BufTy).Contents (Elt F)),
   StableHlo.binary main_v49 main_v49 main_v50 (mulf : (⟨S10, .f32⟩ : BufTy).Contents (Elt F) → (⟨S10, .f32⟩ : BufTy).Contents (Elt F) → (⟨S10, .f32⟩ : BufTy).Contents (Elt F)),
   StableHlo.nullary main_cst_10 (constant S_ .f32 0x00000000#32),
   StableHlo.binary main_v35 main_cst_10 main_v51 ((fun x v => Host.reduceAdd x v reducesTo_S10_S_d0 h_S_) : (⟨S10, .f32⟩ : BufTy).Contents (Elt F) → (⟨S_, .f32⟩ : BufTy).Contents (Elt F) → (⟨S_, .f32⟩ : BufTy).Contents (Elt F)),
   StableHlo.unary main_v51 main_v52 (broadcastInDim S10 ![] bcast_S_S10 : (⟨S_, .f32⟩ : BufTy).Contents (Elt F) → (⟨S10, .f32⟩ : BufTy).Contents (Elt F)),
   StableHlo.binary main_v35 main_v52 main_v53 (Host.divf : (⟨S10, .f32⟩ : BufTy).Contents (Elt F) → (⟨S10, .f32⟩ : BufTy).Contents (Elt F) → (⟨S10, .f32⟩ : BufTy).Contents (Elt F)),
   StableHlo.binary main_v50 main_v53 main_v54 (mulf : (⟨S10, .f32⟩ : BufTy).Contents (Elt F) → (⟨S10, .f32⟩ : BufTy).Contents (Elt F) → (⟨S10, .f32⟩ : BufTy).Contents (Elt F)),
   StableHlo.nullary main_cst_11 (constant S_ .f32 0x00000000#32),
   StableHlo.binary main_v54 main_cst_11 main_v55 ((fun x v => Host.reduceAdd x v reducesTo_S10_S_d0 h_S_) : (⟨S10, .f32⟩ : BufTy).Contents (Elt F) → (⟨S_, .f32⟩ : BufTy).Contents (Elt F) → (⟨S_, .f32⟩ : BufTy).Contents (Elt F))]

set_option maxHeartbeats 40000000 in
/-- The program is its five stretches. -/
theorem main_eq (d : Dev nD) : main (F := F) d = StableHlo.seq (ops1 ++ ops2 ++ ops3 ++ ops4 ++ ops5) := rfl

abbrev outs1 : List (Ref sig .tc) := [main_cst, main_v0, main_cst_0, main_v1, main_v2, main_v3, main_v4, main_v5, main_v6, main_cst_1, main_v7, main_v8, main_v9, main_v10, main_cst_2, main_v11, main_call0_v0, main_call0_cst, main_call0_c, main_call0_v1_0, main_v12]
theorem ops1_writes : (ops1 (F := F)).Forall fun op => op.writes ⊆ (outs1.map (Proc.devRef (τ := τ) .tc)).toFinset :=
  StableHlo.forall_writes_sub_of_map rfl
theorem ops1_sub : (ops1 (F := F)).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.nullary_bufs_sub .., StableHlo.nullary_bufs_sub .., StableHlo.quaternary_bufs_sub .., StableHlo.quaternary_bufs_sub ..⟩
theorem ops1_fresh : (ops1 (F := F)).Forall fun op => op.fresh = ∅ :=
  ⟨rfl, rfl, rfl, rfl, rfl, rfl, rfl, rfl, rfl, rfl, rfl, rfl, rfl, rfl, rfl, rfl, rfl, rfl, rfl, rfl, rfl⟩

abbrev outs2 : List (Ref sig .tc) := [main_cst_3, main_cst_4, main_call1_v0, main_call1_v1, main_call1_v2, main_call1_cst, main_call1_v3, main_call1_v4, main_call1_cst_0, main_call1_v5, main_call1_v6, main_call1_v7, main_call1_cst_1, main_call1_v8, main_call1_v9, main_call1_v10, main_call1_v11, main_call1_v12, main_call1_v13, main_call1_v14, main_call1_v15, main_call1_v16, main_v13]
theorem ops2_writes : (ops2 (F := F)).Forall fun op => op.writes ⊆ (outs2.map (Proc.devRef (τ := τ) .tc)).toFinset :=
  StableHlo.forall_writes_sub_of_map rfl
theorem ops2_sub : (ops2 (F := F)).Forall fun op => op.bufs ⊆ StableHlo.tcRefs τ sig :=
  ⟨StableHlo.nullary_bufs_sub .., StableHlo.nullary_bufs_sub .., StableHlo.unary_bufs_sub .., StableHlo.unary_bufs_sub .., StableHlo.binary_bufs_sub .., StableHlo.nullary_bufs_sub .., StableHlo.binary_bufs_sub .., StableHlo.nullary_bufs_sub .., StableHlo.nullary_bufs_sub .., StableHlo.unary_bufs_sub .., StableHlo.binary_bufs_sub .., StableHlo.reshape_bufs_sub .., StableHlo.nullary_bufs_sub .., StableHlo.unary_bufs_sub .., StableHlo.binary_bufs_sub .., StableHlo.unary_bufs_sub .., StableHlo.binary_bufs_sub .., StableHlo.reshape_bufs_sub .., StableHlo.unary_bufs_sub .., StableHlo.binary_bufs_sub .., StableHlo.binary_bufs_sub .., StableHlo.unary_bufs_sub .., StableHlo.binary_bufs_sub ..⟩
theorem ops2_fresh : (ops2 (F := F)).Forall fun op => op.fresh = ∅ :=
  ⟨rfl, rfl, rfl, rfl, rfl, rfl, rfl, rfl, rfl, rfl, rfl, rfl, rfl, rfl, rfl, rfl, rfl, rfl, rfl, rfl, rfl, rfl, rfl⟩

abbrev outs3 : List (Ref sig .tc) := [main_v14, main_v15, main_v16, main_v17, main_v18, main_v19, main_v20, main_v21, main_v22, main_v23, main_v24, main_v25, main_v26, main_v27, main_v28, main_v29]
theorem ops3_writes : (ops3 (F := F)).Forall fun op => op.writes ⊆ (outs3.map (Proc.devRef (τ := τ) .tc)).toFinset :=
  StableHlo.forall_writes_sub_of_map rfl
theorem ops3_sub : (ops3 (F := F)).Forall fun op => op.bufs ⊆ StableHlo.tcRefs τ sig :=
  ⟨StableHlo.unary_bufs_sub .., StableHlo.unary_bufs_sub .., StableHlo.reshape_bufs_sub .., StableHlo.binary_bufs_sub .., StableHlo.reshape_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub ..⟩
theorem ops3_fresh : (ops3 (F := F)).Forall fun op => op.fresh = ∅ :=
  ⟨rfl, rfl, rfl, rfl, rfl, rfl, rfl, rfl, rfl, rfl, rfl, rfl, rfl, rfl, rfl, rfl⟩

abbrev outs4 : List (Ref sig .tc) := [main_v30, main_cst_5, main_call2_v0, main_call2_v1, main_call2_v2, main_v31, main_cst_6, main_v32, main_v33, main_c, main_v34, main_v35, main_v36, main_v37, main_v38, main_v39, main_c_7, main_v40, main_v41]
theorem ops4_writes : (ops4 (F := F)).Forall fun op => op.writes ⊆ (outs4.map (Proc.devRef (τ := τ) .tc)).toFinset :=
  StableHlo.forall_writes_sub_of_map rfl
theorem ops4_sub : (ops4 (F := F)).Forall fun op => op.bufs ⊆ StableHlo.tcRefs τ sig :=
  ⟨StableHlo.unary_bufs_sub .., StableHlo.nullary_bufs_sub .., StableHlo.unary_bufs_sub .., StableHlo.unary_bufs_sub .., StableHlo.unary_bufs_sub .., StableHlo.ternary_bufs_sub .., StableHlo.nullary_bufs_sub .., StableHlo.binary_bufs_sub .., StableHlo.unary_bufs_sub .., StableHlo.nullary_bufs_sub .., StableHlo.binary_bufs_sub .., StableHlo.unary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub ..⟩
theorem ops4_fresh : (ops4 (F := F)).Forall fun op => op.fresh = ∅ :=
  ⟨rfl, rfl, rfl, rfl, rfl, rfl, rfl, rfl, rfl, rfl, rfl, rfl, rfl, rfl, rfl, rfl, rfl, rfl, rfl⟩

abbrev outs5 : List (Ref sig .tc) := [main_cst_8, main_v42, main_v43, main_v44, main_cst_9, main_v45, main_v46, main_v47, main_v48, main_v49, main_v50, main_cst_10, main_v51, main_v52, main_v53, main_v54, main_cst_11, main_v55]
theorem ops5_writes : (ops5 (F := F)).Forall fun op => op.writes ⊆ (outs5.map (Proc.devRef (τ := τ) .tc)).toFinset :=
  StableHlo.forall_writes_sub_of_map rfl
theorem ops5_sub : (ops5 (F := F)).Forall fun op => op.bufs ⊆ StableHlo.tcRefs τ sig :=
  ⟨StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.nullary_bufs_sub .., StableHlo.binary_bufs_sub ..⟩
theorem ops5_fresh : (ops5 (F := F)).Forall fun op => op.fresh = ∅ :=
  ⟨rfl, rfl, rfl, rfl, rfl, rfl, rfl, rfl, rfl, rfl, rfl, rfl, rfl, rfl, rfl, rfl, rfl, rfl⟩

def sm (x_arg0 : S8x19x512x512.Idx → F .f32) : S8x19x512x512.Idx → F .f32 :=
  ((Host.divf) ((Host.exp) ((subf) x_arg0 ((broadcastInDim S8x19x512x512 ![0, 1, 2, 3] bcast_S8x1x512x512_S8x19x512x512_0_1_2_3) ((broadcastInDim S8x1x512x512 ![0, 2, 3] bcast_S8x512x512_S8x1x512x512_0_2_3) ((maximumf) ((broadcastInDim S8x512x512 ![] bcast_S_S8x512x512) (constant S_ .f32 0xFF800000#32)) (((fun x v => Host.reduce FloatOps.maximumf x v reducesTo_S8x19x512x512_S8x512x512_d1 h_S_)) x_arg0 (constant S_ .f32 0xFF800000#32))))))) ((broadcastInDim S8x19x512x512 ![0, 1, 2, 3] bcast_S8x1x512x512_S8x19x512x512_0_1_2_3) ((broadcastInDim S8x1x512x512 ![0, 2, 3] bcast_S8x512x512_S8x1x512x512_0_2_3) (((fun x v => Host.reduceAdd x v reducesTo_S8x19x512x512_S8x512x512_d1 h_S_)) ((Host.exp) ((subf) x_arg0 ((broadcastInDim S8x19x512x512 ![0, 1, 2, 3] bcast_S8x1x512x512_S8x19x512x512_0_1_2_3) ((broadcastInDim S8x1x512x512 ![0, 2, 3] bcast_S8x512x512_S8x1x512x512_0_2_3) ((maximumf) ((broadcastInDim S8x512x512 ![] bcast_S_S8x512x512) (constant S_ .f32 0xFF800000#32)) (((fun x v => Host.reduce FloatOps.maximumf x v reducesTo_S8x19x512x512_S8x512x512_d1 h_S_)) x_arg0 (constant S_ .f32 0xFF800000#32))))))) (constant S_ .f32 0x00000000#32)))))
def smMax (x_arg0 : S8x19x512x512.Idx → F .f32) : S8x512x512.Idx → F .f32 :=
  (((fun x v => Host.reduce FloatOps.maximumf x v reducesTo_S8x19x512x512_S8x512x512_d1 h_S_)) (sm (F := F) x_arg0) (constant S_ .f32 0xFF800000#32))
def smArg (x_arg0 : S8x19x512x512.Idx → F .f32) : S8x512x512.Idx → BitVec 32 :=
  (fun j => (fun x y u v j => (Host.argReduce reducer_argmax_f32_i32 x y u v reducesTo_S8x19x512x512_S8x512x512_d1 h_S_ j).2) (sm (F := F) x_arg0) (iotaInDim S8x19x512x512 32 1) (constant S_ .f32 0xFF800000#32) (constantI S_ 32 0#32) j)
def lin  : S11.Idx → F .f32 :=
  ((fun a b => concatenate S11 0 [⟨S10, a⟩, ⟨S1, b⟩] concatenates_S10_S1_S11_d0) (addf (mulf ((broadcastInDim S10 ![0] bcast_S1_S10_0) (shapeCast S1 (id (constant S_ .f32 0x00000000#32)) shapeCasts_S_S1)) (subf ((broadcastInDim S10 ![] bcast_S_S10) (constant S_ .f32 0x3F800000#32)) (Host.divf (sitofp .f32 (iotaInDim S10 32 0)) ((broadcastInDim S10 ![] bcast_S_S10) (constant S_ .f32 0x41200000#32))))) (mulf ((broadcastInDim S10 ![0] bcast_S1_S10_0) (shapeCast S1 (id (constant S_ .f32 0x3F800000#32)) shapeCasts_S_S1)) (Host.divf (sitofp .f32 (iotaInDim S10 32 0)) ((broadcastInDim S10 ![] bcast_S_S10) (constant S_ .f32 0x41200000#32))))) ((broadcastInDim S1 ![] bcast_S_S1) (id (constant S_ .f32 0x3F800000#32))))
def flatMax (x_v11 : S8x512x512.Idx → F .f32) : S2097152.Idx → F .f32 :=
  (shapeCast S2097152 x_v11 shapeCasts_S8x512x512_S2097152)
def hit (x_v12 : S8x512x512.Idx → BitVec 32) (x_arg1 : S8x512x512.Idx → BitVec 32) : S2097152.Idx → BitVec 1 :=
  (shapeCast S2097152 ((cmpi .eq) x_v12 x_arg1) shapeCasts_S8x512x512_S2097152)
def mask (x_v13 : S11.Idx → F .f32) (x_v11 : S8x512x512.Idx → F .f32) : S10x2097152.Idx → BitVec 1 :=
  ((andi) ((cmpf .ogt) ((broadcastInDim S10x2097152 ![0, 1] bcast_S1x2097152_S10x2097152_0_1) ((broadcastInDim S1x2097152 ![1] bcast_S2097152_S1x2097152_1) (flatMax (F := F) x_v11))) ((broadcastInDim S10x2097152 ![0, 1] bcast_S10x1_S10x2097152_0_1) ((broadcastInDim S10x1 ![0] bcast_S10_S10x1_0) (((extractStridedSlice S10 ![0] · slices_S11_S10_0)) x_v13)))) ((cmpf .ole) ((broadcastInDim S10x2097152 ![0, 1] bcast_S1x2097152_S10x2097152_0_1) ((broadcastInDim S1x2097152 ![1] bcast_S2097152_S1x2097152_1) (flatMax (F := F) x_v11))) ((broadcastInDim S10x2097152 ![0, 1] bcast_S10x1_S10x2097152_0_1) ((broadcastInDim S10x1 ![0] bcast_S10_S10x1_0) (((extractStridedSlice S10 ![1] · slices_S11_S10_1)) x_v13)))))
def binSum (x_v16 : S2097152.Idx → F .f32) (x_v29 : S10x2097152.Idx → BitVec 1) : S10.Idx → F .f32 :=
  (((fun x v => Host.reduceAdd x v reducesTo_S10x2097152_S10_d1 h_S_)) (select x_v29 ((broadcastInDim S10x2097152 ![0, 1] bcast_S1x2097152_S10x2097152_0_1) ((broadcastInDim S1x2097152 ![1] bcast_S2097152_S1x2097152_1) x_v16)) ((broadcastInDim S10x2097152 ![] bcast_S_S10x2097152) (id (constant S_ .f32 0x00000000#32)))) (constant S_ .f32 0x00000000#32))
def binCnt (x_v29 : S10x2097152.Idx → BitVec 1) : S10.Idx → F .f32 :=
  ((sitofp .f32) (((fun x v => Host.reduce IntOp.addi x v reducesTo_S10x2097152_S10_d1 h_S_)) (((extui 32 · natLt_1_32)) x_v29) (constantI S_ 32 0#32)))
def binHit (x_v29 : S10x2097152.Idx → BitVec 1) (x_v18 : S2097152.Idx → BitVec 1) : S10.Idx → F .f32 :=
  ((sitofp .f32) (((fun x v => Host.reduce IntOp.addi x v reducesTo_S10x2097152_S10_d1 h_S_)) (((extui 32 · natLt_1_32)) ((andi) x_v29 ((broadcastInDim S10x2097152 ![0, 1] bcast_S1x2097152_S10x2097152_0_1) ((broadcastInDim S1x2097152 ![1] bcast_S2097152_S1x2097152_1) x_v18)))) (constantI S_ 32 0#32)))
def errOf (x_v32 : S10.Idx → F .f32) (x_v35 : S10.Idx → F .f32) (x_v41 : S10.Idx → F .f32) : S_.Idx → F .f32 :=
  (((fun x v => Host.reduceAdd x v reducesTo_S10_S_d0 h_S_)) ((mulf) ((mulf) ((Host.absf) ((subf) ((Host.divf) x_v41 ((addf) x_v35 ((broadcastInDim S10 ![] bcast_S_S10) (constant S_ .f32 0x29E12E13#32)))) ((Host.divf) x_v32 ((addf) x_v35 ((broadcastInDim S10 ![] bcast_S_S10) (constant S_ .f32 0x29E12E13#32)))))) ((Host.absf) ((subf) ((Host.divf) x_v41 ((addf) x_v35 ((broadcastInDim S10 ![] bcast_S_S10) (constant S_ .f32 0x29E12E13#32)))) ((Host.divf) x_v32 ((addf) x_v35 ((broadcastInDim S10 ![] bcast_S_S10) (constant S_ .f32 0x29E12E13#32))))))) ((Host.divf) x_v35 ((broadcastInDim S10 ![] bcast_S_S10) (((fun x v => Host.reduceAdd x v reducesTo_S10_S_d0 h_S_)) x_v35 (constant S_ .f32 0x00000000#32))))) (constant S_ .f32 0x00000000#32))

variable (V : Valuation τ sig (Elt F))

theorem after1_v11 : StableHlo.after ops1 V main_v11 = smMax (F := F) (V main_arg0) := by
  after_results
  rfl
theorem after1_v12 : StableHlo.after ops1 V main_v12 = smArg (F := F) (V main_arg0) := by
  after_results
  rfl
theorem after2_v13 : StableHlo.after ops2 V main_v13 = lin (F := F) := by
  after_results
  rfl
theorem after3_v16 : StableHlo.after ops3 V main_v16 = flatMax (F := F) (V main_v11) := by
  after_results
  rfl
theorem after3_v18 : StableHlo.after ops3 V main_v18 = hit (V main_v12) (V main_arg1) := by
  after_results
  rfl
theorem after3_v29 : StableHlo.after ops3 V main_v29 = mask (F := F) (V main_v13) (V main_v11) := by
  after_results
  rfl
theorem after4_v32 : StableHlo.after ops4 V main_v32 = binSum (F := F) (V main_v16) (V main_v29) := by
  after_results
  rfl
theorem after4_v35 : StableHlo.after ops4 V main_v35 = binCnt (F := F) (V main_v29) := by
  after_results
  rfl
theorem after4_v41 : StableHlo.after ops4 V main_v41 = binHit (F := F) (V main_v29) (V main_v18) := by
  after_results
  rfl
theorem after5_v55 : StableHlo.after ops5 V main_v55 = errOf (F := F) (V main_v32) (V main_v35) (V main_v41) := by
  after_results
  rfl

theorem after_append (p q : List (HloOp τ sig (Elt F))) : StableHlo.after (p ++ q) V = StableHlo.after q (StableHlo.after p V) := by
  induction p generalizing V with
  | nil => rfl
  | cons op p ih => rw [List.cons_append, StableHlo.after_cons, StableHlo.after_cons, ih]

/-- The reference's result, of the logits and the labels. -/
def refOut (X : S8x19x512x512.Idx → F .f32) (L : S8x512x512.Idx → BitVec 32) : S_.Idx → F .f32 :=
  let M := mask (F := F) lin (smMax X)
  errOf (binSum (flatMax (smMax X)) M) (binCnt (F := F) M) (binHit (F := F) M (hit (smArg X) L))

theorem after_out : StableHlo.after (ops1 ++ ops2 ++ ops3 ++ ops4 ++ ops5) V main_v55 = refOut (V main_arg0) (V main_arg1) := by
  have k2 : ∀ (W : Valuation τ sig (Elt F)) (r : Ref sig .tc), r ∉ outs2 → StableHlo.after ops2 W r = W r := fun W r h =>
    StableHlo.after_of_writes_sub ops2 W ops2_writes h
  have k1 : ∀ (W : Valuation τ sig (Elt F)) (r : Ref sig .tc), r ∉ outs1 → StableHlo.after ops1 W r = W r := fun W r h =>
    StableHlo.after_of_writes_sub ops1 W ops1_writes h
  rw [after_append, after_append, after_append, after_append,
    after5_v55, after4_v32, after4_v35, after4_v41, after3_v16, after3_v29, after3_v18, after2_v13,
    k2 _ main_v11 (by decide), k2 _ main_v12 (by decide), k2 _ main_arg1 (by decide), k1 _ main_arg1 (by decide), after1_v11, after1_v12]
  rfl

theorem kept (r : Ref sig .tc) (h1 : r ∉ outs1) (h2 : r ∉ outs2) (h3 : r ∉ outs3) (h4 : r ∉ outs4) (h5 : r ∉ outs5) :
    StableHlo.after (ops1 ++ ops2 ++ ops3 ++ ops4 ++ ops5) V r = V r := by
  rw [after_append, after_append, after_append, after_append,
    StableHlo.after_of_writes_sub ops5 _ ops5_writes h5, StableHlo.after_of_writes_sub ops4 _ ops4_writes h4,
    StableHlo.after_of_writes_sub ops3 _ ops3_writes h3, StableHlo.after_of_writes_sub ops2 _ ops2_writes h2,
    StableHlo.after_of_writes_sub ops1 _ ops1_writes h1]

/-- The reference runs: its result is `refOut` of its arguments, which end as they were, and the semaphores end at zero. -/
theorem run (m : (ℓ : Loc nD τ sig) → Buf (Elt F) ℓ) (ρ : Dev nD → PrngReg) :
    θ_run (Cert.ReferenceIdeal.defs (F := F)) (onTc (τ := τ) (main (F := F))) ⟨m, fun _ => 0, ρ⟩ fun r =>
      (∀ d : Dev nD, r.2.mem ((d.tc : Thread nD τ).loc main_v55) = refOut (m ((d.tc : Thread nD τ).loc main_arg0)) (m ((d.tc : Thread nD τ).loc main_arg1))
        ∧ r.2.mem ((d.tc : Thread nD τ).loc main_arg0) = m ((d.tc : Thread nD τ).loc main_arg0)
        ∧ r.2.mem ((d.tc : Thread nD τ).loc main_arg1) = m ((d.tc : Thread nD τ).loc main_arg1)) := by
  refine θ_run_mono (StableHlo.run_hlo _ _ main_eq (by decide) (by decide)
    (List.forall_append.mpr ⟨List.forall_append.mpr ⟨List.forall_append.mpr ⟨List.forall_append.mpr ⟨ops1_sub, ops2_sub⟩, ops3_sub⟩, ops4_sub⟩, ops5_sub⟩)
    (List.forall_iff_forall_mem.mp (List.forall_append.mpr ⟨List.forall_append.mpr ⟨List.forall_append.mpr ⟨List.forall_append.mpr ⟨ops1_fresh, ops2_fresh⟩, ops3_fresh⟩, ops4_fresh⟩, ops5_fresh⟩)) m ρ) ?_
  intro r h d
  exact ⟨(h d main_v55).trans (after_out _), (h d main_arg0).trans (kept _ main_arg0 (by decide) (by decide) (by decide) (by decide) (by decide)),
    (h d main_arg1).trans (kept _ main_arg1 (by decide) (by decide) (by decide) (by decide) (by decide))⟩

/-- The frame of the reference: it declares no semaphore, so none is left raised. -/
theorem framed : Cert.quiescent_ReferenceIdeal := fun m ρ _ =>
  θ_run_mono (run (F := Ideal) m ρ) fun r h => ⟨fun c => (h c).2, sem_eq_zero_of_no_sems (by decide) r.2⟩

end Cert.Proof.Ref

end
-- ==== Proof.Lanes.lean ====
/-
  A scatter-add of sixteen lanes into a table of rows of sixteen, each lane adding into its own column: no two lanes
  meet, so the scatter is one pointwise formula.
-/
module

public import Idealize.ShloMosaic.PureOps

@[expose] public section

noncomputable section

namespace Cert.Proof.Lanes

open Idealize.ShloMosaic

variable {F : FTy → Type} [FloatOps F]

/-- The shape of one vector of sixteen lanes. -/
abbrev V16 : Shape := ⟨1, ![16]⟩

/-- Lane number `k` as an index of a vector. -/
def laneIx (k : Fin 16) : V16.Idx := Shape.ofLane (d := ![16]) k

/-- The column of entry `p` of a table of rows of sixteen. -/
def col (p : ℕ) : Fin 16 := ⟨p % 16, Nat.mod_lt _ (by decide)⟩

@[simp] theorem laneIx_val (k : Fin 16) (a : Fin 1) : (laneIx k a).val = k.val := by
  obtain rfl := Fin.eq_zero a; rfl

theorem eq_laneIx (x : V16.Idx) : x = laneIx ⟨(x 0).val, (x 0).isLt⟩ := by
  funext a; obtain rfl := Fin.eq_zero a; rfl

/-- One lane's step of the scatter-add: lane `k`'s value added onto the entry its index names. -/
def addLane {n : ℕ} (ix : IVec V16 32) (v : Vec F V16 .f32) (h : ∀ a x, ((![ix] : Fin 1 → IVec V16 32) a x).toNat < (⟨1, ![n]⟩ : Shape).size a)
    (g : Vec F ⟨1, ![n]⟩ .f32) (k : Fin 16) : Vec F ⟨1, ![n]⟩ .f32 :=
  fun j => if (∀ a, (j a).val = (idxAt (s := ⟨1, ![n]⟩) ![ix] h (laneIx k) a).val)
    then FloatOps.idxAddf (g (idxAt (s := ⟨1, ![n]⟩) ![ix] h (laneIx k))) (v (laneIx k)) else g j

/-- A scatter-add whose lane `k` goes to row `r k`, column `k`: entry `p` of the table gets lane `p % 16`'s value when that
    lane's row is `p / 16`, and stays as it is otherwise. -/
theorem storeIdx_lanes {n : ℕ} (f : Vec F ⟨1, ![n]⟩ .f32) (ix : IVec V16 32) (v : Vec F V16 .f32) (mask : IVec V16 1)
    (hm : ∀ x, mask x = 1) (h : ∀ a x, ((![ix] : Fin 1 → IVec V16 32) a x).toNat < (⟨1, ![n]⟩ : Shape).size a) (r : Fin 16 → ℕ)
    (hr : ∀ k, (ix (laneIx k)).toNat = 16 * r k + k.val) :
    storeIdx (s := ⟨1, ![n]⟩) (d := ![16]) f ![ix] v mask true h
      = fun j => if r (col (j 0).val) = (j 0).val / 16 then FloatOps.idxAddf (f j) (v (laneIx (col (j 0).val))) else f j := by
  have key : ∀ (l : List (Fin 16)), l.Nodup → ∀ g : Vec F ⟨1, ![n]⟩ .f32,
      l.foldl (addLane ix v h) g
      = fun j => if col (j 0).val ∈ l ∧ r (col (j 0).val) = (j 0).val / 16
          then FloatOps.idxAddf (g j) (v (laneIx (col (j 0).val))) else g j := by
    intro l
    induction l with
    | nil => intro _ g; funext j; simp
    | cons k l ih =>
      intro hl g
      obtain ⟨hk, hl'⟩ := List.nodup_cons.mp hl
      rw [List.foldl_cons, ih hl']
      funext j
      have hix : (idxAt (s := ⟨1, ![n]⟩) ![ix] h (laneIx k) 0).val = 16 * r k + k.val := hr k
      have hall : (∀ a, (j a).val = (idxAt (s := ⟨1, ![n]⟩) ![ix] h (laneIx k) a).val) ↔ (col (j 0).val = k ∧ r k = (j 0).val / 16) := by
        constructor
        · intro hh
          have h0 := hh 0
          rw [hix] at h0
          have hk16 := k.isLt
          refine ⟨Fin.ext ?_, ?_⟩
          · show (j 0).val % 16 = k.val
            omega
          · omega
        · rintro ⟨h1, h2⟩ a
          obtain rfl := Fin.eq_zero a
          have h1' : (j 0).val % 16 = k.val := congrArg Fin.val h1
          rw [hix]; omega
      by_cases hj : col (j 0).val = k ∧ r k = (j 0).val / 16
      · have hmem : ¬ (col (j 0).val ∈ l) := by rw [hj.1]; exact hk
        have hr' : r (col (j 0).val) = (j 0).val / 16 := by rw [hj.1]; exact hj.2
        have hin : col (j 0).val ∈ k :: l := by rw [hj.1]; exact List.mem_cons_self
        rw [if_neg (fun c => hmem c.1), if_pos (show _ from ⟨hin, hr'⟩)]
        have e : idxAt (s := ⟨1, ![n]⟩) ![ix] h (laneIx k) = j := funext fun a => Fin.ext (hall.mpr hj a).symm
        refine (if_pos (hall.mpr hj)).trans ?_
        rw [e, hj.1]
      · have e : addLane ix v h g k j = g j := if_neg fun hh => hj (hall.mp hh)
        by_cases hc : col (j 0).val ∈ l ∧ r (col (j 0).val) = (j 0).val / 16
        · rw [if_pos hc, if_pos (show _ from ⟨List.mem_cons_of_mem _ hc.1, hc.2⟩), e]
        · rw [if_neg hc, if_neg (show ¬ _ from ?_), e]
          rintro ⟨h1, h2⟩
          rcases List.mem_cons.mp h1 with h1 | h1
          · exact hj ⟨h1, h1 ▸ h2⟩
          · exact hc ⟨h1, h2⟩
  have e0 : storeIdx (s := ⟨1, ![n]⟩) (d := ![16]) f ![ix] v mask true h = (List.finRange 16).foldl (addLane ix v h) f := by
    unfold storeIdx
    refine congrArg (fun z => List.foldl z f (List.finRange 16)) ?_
    funext g k
    exact if_pos (hm _)
  rw [e0, key _ (List.nodup_finRange 16)]
  funext j
  simp only [List.mem_finRange, true_and]

end Cert.Proof.Lanes

end
-- ==== Proof.Tally.lean ====
/-
  What one tile of the histogram kernel has in its two tables after `n` vectors of sixteen elements: the confidence
  table, ten rows of sixteen lanes, and the count table, twenty rows of sixteen lanes. A row is a bin (and, for the
  counts, whether the prediction was right); lane `k` of a row takes only elements whose place is `k` modulo sixteen.
-/
module

public import proofs.«01_k».proof.Proof.Lanes

@[expose] public section

noncomputable section

namespace Cert.Proof.Tally

open Idealize.ShloMosaic Cert.Proof.Lanes

variable {F : FTy → Type} [FloatOps F]

/-- The pixels as one line. -/
abbrev Line : Shape := ⟨1, ![2097152]⟩
abbrev Conf : Shape := ⟨1, ![160]⟩
abbrev Cnt : Shape := ⟨1, ![320]⟩

/-- Entry number `n` of the line (past its end the count starts anew). -/
def at1 {α : Type} (f : Line.Idx → α) (n : ℕ) : α :=
  f fun a => ⟨n % 2097152, by obtain rfl := Fin.eq_zero a; exact Nat.mod_lt n (by decide)⟩

theorem at1_of {α : Type} (f : Line.Idx → α) (i : Line.Idx) (n : ℕ) (h : (i 0).val = n) : f i = at1 f n := by
  refine congrArg f (funext fun a => ?_)
  obtain rfl := Fin.eq_zero a
  refine Fin.ext ?_
  show (i 0).val = n % 2097152
  have := (i 0).isLt
  have h2 : (i 0).val < 2097152 := this
  rw [← h, Nat.mod_eq_of_lt h2]

/-- The confidence table of the tile whose elements start at `base`, after `n` vectors. -/
def confAt (ps : Line.Idx → F .f32) (key : Line.Idx → BitVec 32) (base : ℕ) : ℕ → Conf.Idx → F .f32
  | 0 => fun _ => Scalar.ofBits .f32 0x00000000#32
  | n + 1 => fun j =>
      if (at1 key (base + 16 * n + (col (j 0).val).val)).toNat / 2 = (j 0).val / 16
      then FloatOps.idxAddf (confAt ps key base n j) (at1 ps (base + 16 * n + (col (j 0).val).val))
      else confAt ps key base n j

/-- The count table of the tile whose elements start at `base`, after `n` vectors. -/
def cntAt (key : Line.Idx → BitVec 32) (base : ℕ) : ℕ → Cnt.Idx → F .f32
  | 0 => fun _ => Scalar.ofBits .f32 0x00000000#32
  | n + 1 => fun j =>
      if (at1 key (base + 16 * n + (col (j 0).val).val)).toNat = (j 0).val / 16
      then FloatOps.idxAddf (cntAt key base n j) (Scalar.ofBits .f32 0x3F800000#32)
      else cntAt key base n j

/-- The word of a confidence index: half the key, times sixteen, plus the lane. -/
theorem conf_word (w : BitVec 32) (k : ℕ) (hw : w.toNat < 20) (hk : k < 16) :
    (((w >>> (1#32).toNat) <<< (4#32).toNat) + BitVec.ofNat 32 k).toNat = 16 * (w.toNat / 2) + k := by
  simp only [BitVec.toNat_add, BitVec.toNat_shiftLeft, BitVec.toNat_ushiftRight, BitVec.toNat_ofNat, Nat.shiftLeft_eq, Nat.shiftRight_eq_div_pow]
  simp only [Nat.reducePow, Nat.reduceMod]
  omega

/-- The word of a count index: the key times sixteen, plus the lane. -/
theorem cnt_word (w : BitVec 32) (k : ℕ) (hw : w.toNat < 20) (hk : k < 16) :
    ((w <<< (4#32).toNat) + BitVec.ofNat 32 k).toNat = 16 * w.toNat + k := by
  simp only [BitVec.toNat_add, BitVec.toNat_shiftLeft, BitVec.toNat_ofNat, Nat.shiftLeft_eq]
  simp only [Nat.reducePow, Nat.reduceMod]
  omega

/-- A word that names a row and a lane, for every lane of a vector: it is inside a table of that many rows. -/
theorem in_table {n : ℕ} (ix : IVec V16 32) (r : Fin 16 → ℕ) (hr : ∀ k, (ix (laneIx k)).toNat = 16 * r k + k.val)
    (hn : ∀ k, 16 * r k + 16 ≤ n) : ∀ a x, ((![ix] : Fin 1 → IVec V16 32) a x).toNat < (⟨1, ![n]⟩ : Shape).size a := by
  intro a x
  obtain rfl := Fin.eq_zero a
  rw [eq_laneIx x]
  show (ix (laneIx _)).toNat < n
  rw [hr]
  have := hn ⟨(x 0).val, (x 0).isLt⟩
  have h2 : (x 0).val < 16 := (x 0).isLt
  simp only at this ⊢
  omega

/-- One scatter-add takes the confidence table one vector further. -/
theorem conf_step (ps : Line.Idx → F .f32) (key : Line.Idx → BitVec 32) (base n : ℕ) (ix : IVec V16 32) (v : Vec F V16 .f32) (mask)
    (hm : ∀ x, mask x = 1#1) (h) (hv : ∀ k : Fin 16, v (laneIx k) = at1 ps (base + 16 * n + k.val))
    (hr : ∀ k : Fin 16, (ix (laneIx k)).toNat = 16 * ((at1 key (base + 16 * n + k.val)).toNat / 2) + k.val) :
    storeIdx (s := Conf) (d := ![16]) (confAt ps key base n) ![ix] v mask true h = confAt ps key base (n + 1) := by
  rw [storeIdx_lanes (n := 160) _ ix v mask hm h (fun k => (at1 key (base + 16 * n + k.val)).toNat / 2) hr]
  funext j
  rw [hv]; rfl

/-- One scatter-add of ones takes the count table one vector further. -/
theorem cnt_step (key : Line.Idx → BitVec 32) (base n : ℕ) (ix : IVec V16 32) (v : Vec F V16 .f32) (mask)
    (hm : ∀ x, mask x = 1#1) (h) (hv : ∀ k : Fin 16, v (laneIx k) = Scalar.ofBits .f32 0x3F800000#32)
    (hr : ∀ k : Fin 16, (ix (laneIx k)).toNat = 16 * (at1 key (base + 16 * n + k.val)).toNat + k.val) :
    storeIdx (s := Cnt) (d := ![16]) (cntAt (F := F) key base n) ![ix] v mask true h = cntAt key base (n + 1) := by
  rw [storeIdx_lanes (n := 320) _ ix v mask hm h (fun k => (at1 key (base + 16 * n + k.val)).toNat) hr]
  funext j
  rw [hv]; rfl

/-- A one-row block squeezed to a line keeps the column. -/
theorem squeeze_col {n : ℕ} (h : (⟨1, ![n]⟩ : Shape).numel = (⟨2, ![1, n]⟩ : Shape).numel) (y : (⟨1, ![n]⟩ : Shape).Idx) :
    (Shape.reshapeEquiv h y 1).val = (y 0).val := by
  have e := Shape.rowMajor_reshapeEquiv h y
  have h2 := Shape.rowMajor_val_two (d := ![1, n]) (Shape.reshapeEquiv h y)
  have h1 := Shape.rowMajor_val_one (d := ![n]) y
  have hz : (Shape.reshapeEquiv h y 0).val = 0 := by
    have := (Shape.reshapeEquiv h y 0).isLt
    have : (Shape.reshapeEquiv h y 0).val < 1 := this
    omega
  rw [h1, h2, hz] at e
  simpa using e

end Cert.Proof.Tally

end
-- ==== Proof.SetupOnIdeal.lean ====
/-
  The program as the launch theorem of SparseCore programs sees it: its configuration, the ghost state of its handshakes
  and its pipelines, the arrays, and what the one SparseCore call hands each tile and gets back from it.
-/
module

public import proofs.«01_k».proof.Defs
public import proofs.«01_k».proof.Proof.Tally
public import Idealize.ShloMosaic.Lib.SparseCore.Quiescent
public import Idealize.ShloMosaic.Lib.SparseCore.Ops
public import Idealize.ShloMosaic.Lib.StableHlo.Run
public import Idealize.ShloMosaic.Lib.ShareLeaves
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

set_option maxRecDepth 16384

noncomputable section

namespace Cert.Proof.OnIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Tally

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

abbrev UH : Type := URounds (GSem nD τ sig) ℕ
abbrev UR2 : Type := UR sig nD τ × Counters
abbrev UU : Type := UH × UR2

local notation "𝕄" => MT nD τ sig (HIx 1) (Elt F) ℕ UU ℕ

/-- The handshakes' rounds: the left factor. -/
abbrev EH : Emb UH (MT nD τ sig (HIx 1) (Elt F) ℕ UU ℕ) := embL

/-- The pipelines' rounds: the left of the right factor. -/
def EP : Emb (UR sig nD τ) (MT nD τ sig (HIx 1) (Elt F) ℕ UU ℕ) :=
  ((Emb.inl : Emb (UR sig nD τ) UR2).trans (Emb.inr : Emb UR2 UU)).trans
    (uEmb (nD := nD) (sig := sig) (Ix := HIx 1) (Val := Elt F) (Name := ℕ) (U := UU) (Lvl := ℕ)).toEmb

instance EP_landsIn : (EP : Emb (UR sig nD τ) 𝕄).LandsIn (upEmb : UEmb _ 𝕄) := by unfold EP; infer_instance

/-! ## The arrays of the SparseCore call -/

/-- The probabilities and the keys as lines, the two tables of tables. -/
abbrev psLoc (d : Dev nD) : Loc nD τ sig := (SparseCore.T d).loc main_v2
abbrev keyLoc (d : Dev nD) : Loc nD τ sig := (SparseCore.T d).loc main_v3
abbrev confLoc (d : Dev nD) : Loc nD τ sig := (SparseCore.T d).loc main_v4_0
abbrev cntLoc (d : Dev nD) : Loc nD τ sig := (SparseCore.T d).loc main_v4_1

/-- Tile number of subcore `i` of SparseCore `c`. -/
def wid (c : Fin 2) (i : Fin 16) : Fin 32 := ⟨2 * i.val + c.val, by have := c.isLt; have := i.isLt; omega⟩

theorem hdivC : 32 ∣ S32x160.size 0 := ⟨1, rfl⟩
theorem hdivN : 32 ∣ S32x320.size 0 := ⟨1, rfl⟩
/-- Row `w` of the confidence tables, of the count tables. -/
abbrev confRow (w : Fin 32) : Finset S32x160.Idx := (Rect.part (s := S32x160) (a₀ := 0) hdivC w).set
abbrev cntRow (w : Fin 32) : Finset S32x320.Idx := (Rect.part (s := S32x320) (a₀ := 0) hdivN w).set

section Values
variable [FloatOps F] (ps : S2097152.Idx → F .f32) (key : S2097152.Idx → BitVec 32)

/-- The confidence tables, all tiles done. -/
def confRes : S32x160.Idx → F .f32 :=
  fun j => confAt ps key (65536 * (j 0).val) 4096 fun a => ⟨(j 1).val, by obtain rfl := Fin.eq_zero a; exact (j 1).isLt⟩
/-- The count tables, all tiles done. -/
def cntRes : S32x320.Idx → F .f32 :=
  fun j => cntAt key (65536 * (j 0).val) 4096 fun a => ⟨(j 1).val, by obtain rfl := Fin.eq_zero a; exact (j 1).isLt⟩
end Values

/-! ## What the handshakes carry -/

variable [FloatOps F] (ps : Dev nD → S2097152.Idx → F .f32) (key : Dev nD → S2097152.Idx → BitVec 32)

/-- A tile's read shares of the two lines. -/
abbrev lineIn (d : Dev nD) (w : Fin 32) : sProp 𝕄 :=
  iprop((psLoc d ↦{ShareLeaves.leaf 5 fullShare w} ps d) ∗ (keyLoc d ↦{ShareLeaves.leaf 5 fullShare w} key d))

/-- What tile `w` is handed: its shares of the lines and its rows of the tables, holding whatever. -/
abbrev tileIn (d : Dev nD) (w : Fin 32) : sProp 𝕄 :=
  iprop(lineIn ps key d w ∗ (∃ f, confLoc d ↦[confRow w]{fullShare} f) ∗ ∃ f, cntLoc d ↦[cntRow w]{fullShare} f)

/-- What tile `w` gives back: the shares, and its rows at its histogram. -/
abbrev tileOut (d : Dev nD) (w : Fin 32) : sProp 𝕄 :=
  iprop(lineIn ps key d w ∗ (confLoc d ↦[confRow w]{fullShare} confRes (ps d) (key d)) ∗ cntLoc d ↦[cntRow w]{fullShare} cntRes (F := F) (key d))

/-- The same for all the tiles of one SparseCore. -/
abbrev coreIn (d : Dev nD) (c : Fin 2) : sProp 𝕄 := bigSep Finset.univ fun i : Fin 16 => tileIn ps key d (wid c i)
abbrev coreOut (d : Dev nD) (c : Fin 2) : sProp 𝕄 := bigSep Finset.univ fun i : Fin 16 => tileOut ps key d (wid c i)

/-- The call's payloads. -/
def P : (K (F := F)).Pay (nD := nD) (Val := Elt F) (Name := ℕ) (U := UU) where
  st := fun q d c => match q with | 0 => coreIn ps key d (Fin.cast nCore_zero c)
  dn := fun q d c => match q with | 0 => coreOut ps key d (Fin.cast nCore_zero c)
  go := fun q d c i => match q with | 0 => tileIn ps key d (wid (Fin.cast nCore_zero c) (Fin.cast nSub_zero i))
  td := fun q d c i => match q with | 0 => tileOut ps key d (wid (Fin.cast nCore_zero c) (Fin.cast nSub_zero i))
  x := fun _ _ => iprop(emp)

instance P_storable : (P ps key).IsStorable where
  st q d c := match q with
    | 0 => (inferInstance : BI.Storable (upEmb : UEmb _ 𝕄) (coreIn ps key d (Fin.cast nCore_zero c)))
  dn q d c := match q with
    | 0 => (inferInstance : BI.Storable (upEmb : UEmb _ 𝕄) (coreOut ps key d (Fin.cast nCore_zero c)))
  go q d c i := match q with
    | 0 => (inferInstance : BI.Storable (upEmb : UEmb _ 𝕄) (tileIn ps key d (wid (Fin.cast nCore_zero c) (Fin.cast nSub_zero i))))
  td q d c i := match q with
    | 0 => (inferInstance : BI.Storable (upEmb : UEmb _ 𝕄) (tileOut ps key d (wid (Fin.cast nCore_zero c) (Fin.cast nSub_zero i))))

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's share of the call is its tiles' shares, going in and coming back. -/
theorem vecSplit : (K (F := F)).VecSplit' (P ps key) 0 := by
  intro d c
  show coreIn ps key d (Fin.cast nCore_zero c) ⊢ |={Set.univ}=> iprop(
      (bigSep Finset.univ fun i : Fin ((K (F := F)).nSub 0) => tileIn ps key d (wid (Fin.cast nCore_zero c) (Fin.cast nSub_zero i)))
      ∗ ((bigSep Finset.univ fun i : Fin ((K (F := F)).nSub 0) => tileOut ps key d (wid (Fin.cast nCore_zero c) (Fin.cast nSub_zero i)))
          -∗ coreOut ps key d (Fin.cast nCore_zero c)))
  rw [bigSep_tasks (F := F) (fun i => tileIn ps key d (wid (Fin.cast nCore_zero c) i)),
    bigSep_tasks (F := F) (fun i => tileOut ps key d (wid (Fin.cast nCore_zero c) i))]
  iintro H; imodintro
  isplitl [H]; · iexact H
  iintro H; iexact H

end Cert.Proof.OnIdeal

end
-- ==== Proof.RegionOnIdeal.lean ====
/-
  The two kernels that the TensorCore runs through pipelines, one before and one after the SparseCore call: what a
  buffer held whole is, and the passage through one of them from any contents of the TensorCore's arrays, the core
  still owing the SparseCores what it owed before.
-/
module

public import proofs.«01_k».proof.Proof.SetupOnIdeal
public import Idealize.ShloMosaic.Lib.Pipeline.FrameBody
public import Idealize.ShloMosaic.Lib.Pipeline.RegionArrays
public import Idealize.ShloMosaic.Lib.Pipeline.RegionsLoop
public import Idealize.ShloMosaic.Lib.Tactic

@[expose] public section

set_option maxRecDepth 16384

noncomputable section

namespace Cert.Proof.OnIdeal

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The contents of a memref's buffer on core `c`. -/
abbrev Bf (c : Dev nD) {sp : Space} {S : Shape} {e : EltTy} (M : Memref sig .tc sp S e) : Type := Buf (Elt F) (M.view.loc (c : Thread nD τ))

/-- A memref's buffer on core `c`, held whole at the contents `f`. -/
abbrev pt (c : Dev nD) {sp : Space} {S : Shape} {e : EltTy} (M : Memref sig .tc sp S e) (f : Bf (F := F) c M) : sProp 𝕄 :=
  M.view.loc (c : Thread nD τ) ↦{fullShare} f

/-- A whole memref owned at `X` is its buffer at contents that read `X`. -/
theorem take_owns (c : Dev nD) {sp : Space} {S : Shape} {e : EltTy} (M : Memref sig .tc sp S e) (h : M.IsWhole) (X : S.Idx → Elt F e) :
    (owns (c : Thread nD τ) M fullShare X : sProp 𝕄) ⊢ iprop(∃ f, ⌜M.view.read (Elt F) f = X⌝ ∗ pt c M f) := by
  unfold owns
  rw [h.set_eq_univ]

/-- A whole memref's buffer at contents that read `X` is the memref owned at `X`. -/
theorem give_owns (c : Dev nD) {sp : Space} {S : Shape} {e : EltTy} (M : Memref sig .tc sp S e) (h : M.IsWhole) (X : S.Idx → Elt F e)
    (f : Bf (F := F) c M) (hf : M.view.read (Elt F) f = X) : pt c M f ⊢ (owns (c : Thread nD τ) M fullShare X : sProp 𝕄) := by
  unfold owns
  rw [h.set_eq_univ]
  iintro H
  iexists f
  isplitr
  · ipureintro; exact hf
  · iexact H

/-- Neither pipeline prefetches a table. -/
abbrev adm : (p : Fin 2) → (pcfgs (F := F) p).Adm := fun p => (cfgs p).toPCfg_adm

/-- The waits recorded so far are all of levels at most `b`. -/
abbrev low (c : Dev nD) (b : ℕ) : Set (SemLoc sig × HIx 1) := {p | (K (F := F)).lev ((c : Thread nD τ), p.1) p.2 ≤ b}

/-- What the thread holds about what it owes: the tally `O`, its recorded waits of level at most `b`. -/
abbrev owesLow (c : Dev nD) (b : ℕ) (O : CellTallies nD τ sig (HIx 1)) : sProp 𝕄 :=
  iprop(∃ W, ⌜(K (F := F)).WBelow (c : Thread nD τ) W b⌝ ∗ owes (c : Thread nD τ) O W)

/-- The proof data of the two pipelines. -/
abbrev Dats : Type := (p : Fin 2) → (c : Dev nD) → Dat τ (Elt F) (HIx 1) ℕ UU ℕ (Pipeline.pin (pcfgs (F := F)) adm p) c

set_option backward.isDefEq.respectTransparency.types false in
/-- The passage through pipeline `p`, from the TensorCore's arrays at `V` to the same arrays at `V'`, owing `O` throughout. -/
def region (p : Fin 2) (dats : Dats (F := F)) (kit : Pipeline.LaunchFacts (nD := nD) (τ := τ) cfgs p) (b : ℕ)
    (O : Dev nD → CellTallies nD τ sig (HIx 1)) (hO : ∀ c g, O c g none = 0)
    (V V' : (c : Dev nD) → (r : Ref sig .tc) → Buf (Elt F) ((c : Thread nD τ).loc r))
    (hbody : ∀ c, BodyObligation (dats p c) (defs₀ (F := F)) 𝒱₀ none Set.univ)
    (hq : ∀ c w, (dats p c).q w = fullShare)
    (howed : ∀ c t, (dats p c).owed t = O c)
    (hrec : ∀ c t, (dats p c).recorded t = low (F := F) c b)
    (hΦ : ∀ c t, (dats p c).Φ t = Pipeline.scopedRest (Ix := HIx 1) (Name := ℕ) (U := UU) (Lvl := ℕ) (Val := Elt F) (cfgs p).spec c)
    (hA : ∀ c w, (dats p c).A w = V c (Pipeline.arrRef (cfgs p).spec w))
    (hN : ∀ c w, (dats p c).arrAt w (cfgs p).N = V' c (Pipeline.arrRef (cfgs p).spec w))
    (hV : ∀ c r, r ∉ Finset.univ.image (Pipeline.arrRef (cfgs p).spec) → V' c r = V c r) :
    Pipeline.RegionSeg (pcfgs (F := F)) adm dats none defs₀ 𝒱₀ (K (F := F)).L (K (F := F)).lev p where
  win := kit.win.to₀
  block_pos := kit.block_pos
  stage_whole := kit.stage_whole
  K := PEmpty
  osem k := k.elim
  ho := Pipeline.OwnSemFacts.none _
  hbody c := (hbody c).loose
  hwaits c := Pipeline.cellsWaits_intro _ dats none p c fun w s t => by
    rw [howed c t]
    exact (K (F := F)).mayWait_none _ (hO c)
  pre c := iprop(unscopedBufs c (V c) ∗ owesLow (F := F) c b (O c))
  post c := iprop(unscopedBufs c (V' c) ∗ owesLow (F := F) c b (O c))
  X _ := BI.emp
  Y _ := BI.emp
  Z c := Pipeline.unscopedRest (Ix := HIx 1) (Name := ℕ) (U := UU) (Lvl := ℕ) (cfgs p).spec c (V c)
  hentry c := by
    rw [Pipeline.ownSems0_none]
    have hsplit := Pipeline.arrays_of_unscopedBufs (p := p) (pcfgs (F := F)) adm dats kit.win kit.arr_whole c
      ((dats p c).share_full (hq c)) (V c) (hA c)
    iintro ⟨⟨Hub, HO⟩, -, -⟩
    ihave H := hsplit $$ Hub
    icases H with ⟨Ha, Hrest⟩
    imodintro
    isplitl [Ha]; · iexact Ha
    isplitr; · rw [Pipeline.prefHeld_of_none _ rfl]; iempintro
    isplitl [HO]
    · unfold Pipeline.Dat.owesAt Pipeline.owesWithin Pipeline.Dat.bound
      rw [howed c, hrec c]
      icases HO with ⟨%W, %hW, HO⟩; iexists W; isplitr; · ipureintro; exact fun x hx => Or.inl (hW x hx)
      iexact HO
    isplitr; · iempintro
    iexact Hrest
  hin c := by
    rw [hΦ c]
    iintro ⟨-, -, Hr⟩; iexact Hr
  hout c := by
    rw [Pipeline.ownSems0_none, hΦ c]
    iintro Hr
    isplitr; · iempintro
    isplitr; · iempintro
    iexact Hr
  hexit c := by
    have hjoin := Pipeline.unscopedBufs_of_arrays (p := p) (pcfgs (F := F)) adm (Ix := HIx 1) (Name := ℕ) (U := UU) (Lvl := ℕ) kit.win kit.arr_whole c
      dats ((dats p c).share_full (hq c)) (V c) (V' c) ((dats p c).arrAt · (cfgs p).N) (hN c) (hV c)
    iintro ⟨Ha, HO, -, Hrest⟩
    imodintro
    isplitl [Ha Hrest]
    · iapply hjoin; isplitl [Ha] <;> iassumption
    unfold Pipeline.Dat.owesAt Pipeline.owesWithin Pipeline.Dat.bound
    rw [howed c, hrec c]
    icases HO with ⟨%W, %hW, HO⟩; iexists W; isplitr; swap; · iexact HO
    ipureintro
    intro x hx
    rcases hW hx with h | ⟨w, s, rfl⟩
    · exact h
    · exact Nat.zero_le _

end Cert.Proof.OnIdeal
-- ==== Proof.DenseOnIdeal.lean ====
/-
  The first pipeline's kernel, which turns a block of logits, the targets of its pixels and the bin bounds into the
  pixels' confidences and packed bin numbers: its values as functions of what it reads, and its run.
-/
module

public import proofs.«01_k».proof.Proof.RegionOnIdeal
public import Idealize.ShloMosaic.Lib.Pipeline.Value

@[expose] public section

set_option maxRecDepth 16384

noncomputable section

namespace Cert.Proof.OnIdeal

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The values -/

/-- Channel `c` of a block of logits, as the kernel loads it. -/
def chan (X : S1x19x128x512.Idx → F .f32) (c : ℕ) (h : ∀ a, (![0, c, 0, 0] : Fin 4 → ℕ) a + S1x1x128x512.size a ≤ S1x19x128x512.size a) :
    Vec F S1x1x128x512 .f32 :=
  View.ld (Val := Elt F) X (Rect.unit (s := S1x19x128x512) ![0, c, 0, 0] S1x1x128x512.size h)

abbrev ch0 (X : S1x19x128x512.Idx → F .f32) : Vec F S1x1x128x512 .f32 := chan X 0 inb_S1x19x128x512_S1x1x128x512_0_0_0_0
abbrev ch1 (X : S1x19x128x512.Idx → F .f32) : Vec F S1x1x128x512 .f32 := chan X 1 inb_S1x19x128x512_S1x1x128x512_0_1_0_0
abbrev ch2 (X : S1x19x128x512.Idx → F .f32) : Vec F S1x1x128x512 .f32 := chan X 2 inb_S1x19x128x512_S1x1x128x512_0_2_0_0
abbrev ch3 (X : S1x19x128x512.Idx → F .f32) : Vec F S1x1x128x512 .f32 := chan X 3 inb_S1x19x128x512_S1x1x128x512_0_3_0_0
abbrev ch4 (X : S1x19x128x512.Idx → F .f32) : Vec F S1x1x128x512 .f32 := chan X 4 inb_S1x19x128x512_S1x1x128x512_0_4_0_0
abbrev ch5 (X : S1x19x128x512.Idx → F .f32) : Vec F S1x1x128x512 .f32 := chan X 5 inb_S1x19x128x512_S1x1x128x512_0_5_0_0
abbrev ch6 (X : S1x19x128x512.Idx → F .f32) : Vec F S1x1x128x512 .f32 := chan X 6 inb_S1x19x128x512_S1x1x128x512_0_6_0_0
abbrev ch7 (X : S1x19x128x512.Idx → F .f32) : Vec F S1x1x128x512 .f32 := chan X 7 inb_S1x19x128x512_S1x1x128x512_0_7_0_0
abbrev ch8 (X : S1x19x128x512.Idx → F .f32) : Vec F S1x1x128x512 .f32 := chan X 8 inb_S1x19x128x512_S1x1x128x512_0_8_0_0
abbrev ch9 (X : S1x19x128x512.Idx → F .f32) : Vec F S1x1x128x512 .f32 := chan X 9 inb_S1x19x128x512_S1x1x128x512_0_9_0_0
abbrev ch10 (X : S1x19x128x512.Idx → F .f32) : Vec F S1x1x128x512 .f32 := chan X 10 inb_S1x19x128x512_S1x1x128x512_0_10_0_0
abbrev ch11 (X : S1x19x128x512.Idx → F .f32) : Vec F S1x1x128x512 .f32 := chan X 11 inb_S1x19x128x512_S1x1x128x512_0_11_0_0
abbrev ch12 (X : S1x19x128x512.Idx → F .f32) : Vec F S1x1x128x512 .f32 := chan X 12 inb_S1x19x128x512_S1x1x128x512_0_12_0_0
abbrev ch13 (X : S1x19x128x512.Idx → F .f32) : Vec F S1x1x128x512 .f32 := chan X 13 inb_S1x19x128x512_S1x1x128x512_0_13_0_0
abbrev ch14 (X : S1x19x128x512.Idx → F .f32) : Vec F S1x1x128x512 .f32 := chan X 14 inb_S1x19x128x512_S1x1x128x512_0_14_0_0
abbrev ch15 (X : S1x19x128x512.Idx → F .f32) : Vec F S1x1x128x512 .f32 := chan X 15 inb_S1x19x128x512_S1x1x128x512_0_15_0_0
abbrev ch16 (X : S1x19x128x512.Idx → F .f32) : Vec F S1x1x128x512 .f32 := chan X 16 inb_S1x19x128x512_S1x1x128x512_0_16_0_0
abbrev ch17 (X : S1x19x128x512.Idx → F .f32) : Vec F S1x1x128x512 .f32 := chan X 17 inb_S1x19x128x512_S1x1x128x512_0_17_0_0
abbrev ch18 (X : S1x19x128x512.Idx → F .f32) : Vec F S1x1x128x512 .f32 := chan X 18 inb_S1x19x128x512_S1x1x128x512_0_18_0_0

/-- Bound `n` of the bins, as the kernel loads it. -/
def bnd (B : S11.Idx → F .f32) (n : ℕ) (h : ∀ a, (![n] : Fin 1 → ℕ) a + S1.size a ≤ S11.size a) : F .f32 :=
  View.ld (Val := Elt F) (e' := .f32) B (Rect.unit (s := S11) ![n] S1.size h) (Shape.Idx.first (show 0 < S1.numel from numel1_S1 ▸ Nat.one_pos))

/-- The running maximum and the running place of it, after the channels that each part of the kernel reads. -/
def max4 (X : S1x19x128x512.Idx → F .f32) : FVec F S128x512 .f32 := k0_pay15 (ch0 X) (ch1 X) (ch2 X) (ch3 X) (ch4 X)
def arg4 (X : S1x19x128x512.Idx → F .f32) : IVec S128x512 32 := k0_pay16 (ch0 X) (ch1 X) (ch2 X) (ch3 X) (ch4 X)
def max10 (X : S1x19x128x512.Idx → F .f32) : FVec F S128x512 .f32 :=
  k0_pay34 (max4 X) (k0_pay17 (ch5 X)) (ch6 X) (ch7 X) (ch8 X) (ch9 X) (ch10 X)
def arg10 (X : S1x19x128x512.Idx → F .f32) : IVec S128x512 32 :=
  k0_pay35 (max4 X) (arg4 X) (k0_pay17 (ch5 X)) (ch6 X) (ch7 X) (ch8 X) (ch9 X) (ch10 X)
def max15 (X : S1x19x128x512.Idx → F .f32) : FVec F S128x512 .f32 :=
  k0_pay50 (max10 X) (ch11 X) (ch12 X) (ch13 X) (ch14 X) (ch15 X)
def arg15 (X : S1x19x128x512.Idx → F .f32) : IVec S128x512 32 :=
  k0_pay51 (max10 X) (arg10 X) (ch11 X) (ch12 X) (ch13 X) (ch14 X) (ch15 X)
def max18 (X : S1x19x128x512.Idx → F .f32) : FVec F S128x512 .f32 := k0_pay60 (max15 X) (ch16 X) (ch17 X) (ch18 X)
def arg18 (X : S1x19x128x512.Idx → F .f32) : IVec S128x512 32 := k0_pay61 (max15 X) (arg15 X) (ch16 X) (ch17 X) (ch18 X)

/-- The running sum of the exponentials. -/
def sum3 (X : S1x19x128x512.Idx → F .f32) : FVec F S128x512 .f32 :=
  k0_pay62 (k0_pay3 (ch0 X)) (max15 X) (ch16 X) (ch17 X) (ch18 X) (ch1 X) (ch2 X) (ch3 X)
def sum10 (X : S1x19x128x512.Idx → F .f32) : FVec F S128x512 .f32 :=
  k0_pay63 (max18 X) (sum3 X) (ch4 X) (ch5 X) (ch6 X) (ch7 X) (ch8 X) (ch9 X) (ch10 X)
def sum16 (X : S1x19x128x512.Idx → F .f32) : FVec F S128x512 .f32 :=
  k0_pay64 (max18 X) (sum10 X) (ch11 X) (ch12 X) (ch13 X) (ch14 X) (ch15 X) (ch16 X)

/-- The confidences of a block. -/
def psv (X : S1x19x128x512.Idx → F .f32) : FVec F S128x512 .f32 :=
  k0_pay66 (max18 X) (sum16 X) (k0_pay65 (ch17 X)) (ch18 X)

/-- A block's confidences, as stored. -/
def psBlk (X : S1x19x128x512.Idx → F .f32) : S1x128x512.Idx → F .f32 := k0_pay1 (psv X)

/-- A block's targets, as loaded. -/
def tgt (T : S1x128x512.Idx → BitVec 32) : Vec F S1x128x512 .i32 :=
  View.ld (Val := Elt F) (e' := .i32) T (Rect.unit (s := S1x128x512) ![0, 0, 0] S1x128x512.size inb_S1x128x512_S1x128x512_0_0_0)

/-- A block's packed bin numbers, as stored: twice the bin, and one more where the prediction is the target. -/
def keyBlk (B : S11.Idx → F .f32) (X : S1x19x128x512.Idx → F .f32) (T : S1x128x512.Idx → BitVec 32) : S1x128x512.Idx → BitVec 32 :=
  k0_pay2 (psv X) (k0_pay67 (arg18 X) (tgt (F := F) T))
    (k0_pay68 (max18 X) (sum16 X) (k0_pay65 (ch17 X)) (ch18 X) (bnd B 1 inb_S11_S1_1) (bnd B 2 inb_S11_S1_2) (bnd B 3 inb_S11_S1_3)
      (bnd B 4 inb_S11_S1_4) (bnd B 5 inb_S11_S1_5) (bnd B 6 inb_S11_S1_6))
    (bnd B 7 inb_S11_S1_7) (bnd B 8 inb_S11_S1_8) (bnd B 9 inb_S11_S1_9)

/-! ## The run -/

theorem zero3 : (![0, 0, 0] : Fin 3 → ℕ) = fun _ => 0 := by
  funext a; fin_cases a <;> rfl

/-- The kernel on one block: it leaves its inputs as they were, its two outputs at the values above. -/
theorem dense_run (c : Dev nD) (i : grid0.Coords) (M2 : Memref sig .tc .smem S11 .f32) (h2 : M2.IsWhole) (M3 : Memref sig .tc .vmem S1x19x128x512 .f32) (h3 : M3.IsWhole) (M4 : Memref sig .tc .vmem S1x128x512 .i32) (h4 : M4.IsWhole) (M5 : Memref sig .tc .vmem S1x128x512 .f32) (h5 : M5.IsWhole) (M6 : Memref sig .tc .vmem S1x128x512 .i32) (h6 : M6.IsWhole)
    (f2 : Bf (F := F) c M2) (f3 : Bf (F := F) c M3) (f4 : Bf (F := F) c M4) (f5 : Bf (F := F) c M5) (f6 : Bf (F := F) c M6) (Q : PUnit → sProp 𝕄) :
    iprop(pt c M2 f2 ∗ pt c M3 f3 ∗ pt c M4 f4 ∗ pt c M5 f5 ∗ pt c M6 f6
        ∗ (iprop(pt c M2 f2 ∗ pt c M3 f3 ∗ pt c M4 f4
            ∗ (∃ g, ⌜M5.view.read (Elt F) g = psBlk (M3.view.read (Elt F) f3)⌝ ∗ pt c M5 g)
            ∗ ∃ g, ⌜M6.view.read (Elt F) g = keyBlk (M2.view.read (Elt F) f2) (M3.view.read (Elt F) f3) (M4.view.read (Elt F) f4)⌝ ∗ pt c M6 g) -∗ Q ⟨⟩))
      ⊢ wp frame (wpE (defs₀ (F := F)) 𝒱₀ (c : Thread nD τ) none) Set.univ (cc0__dense_body i M2 h2 M3 h3 M4 h4 M5 h5 M6 h6) Q := by
  iintro ⟨H2, H3, H4, H5, H6, Hk⟩
  sl_exec!
  sl_step
  iapply Hk
  isplitl [H2]; · iexact H2
  isplitl [H3]; · iexact H3
  isplitl [H4]; · iexact H4
  isplitl [H5]
  · iexists _
    isplitr; swap; · iexact H5
    ipureintro
    rw [View.read_writes_junk_eq_canon]
    unfold dense_run.sl.H5_1
    exact (View.canon_unit_zero (S := S1x128x512) (Val := Elt F) (e := .f32) zero3 _ _).trans rfl
  · iexists _
    isplitr; swap; · iexact H6
    ipureintro
    rw [View.read_writes_junk_eq_canon]
    unfold dense_run.sl.H6_1
    exact (View.canon_unit_zero (S := S1x128x512) (Val := Elt F) (e := .i32) zero3 _ _).trans rfl

/-- The same over the owned staging memrefs. -/
theorem dense_owns (c : Dev nD) (i : grid0.Coords) (M2 : Memref sig .tc .smem S11 .f32) (h2 : M2.IsWhole) (M3 : Memref sig .tc .vmem S1x19x128x512 .f32) (h3 : M3.IsWhole) (M4 : Memref sig .tc .vmem S1x128x512 .i32) (h4 : M4.IsWhole) (M5 : Memref sig .tc .vmem S1x128x512 .f32) (h5 : M5.IsWhole) (M6 : Memref sig .tc .vmem S1x128x512 .i32) (h6 : M6.IsWhole)
    (B : S11.Idx → F .f32) (X : S1x19x128x512.Idx → F .f32) (T : S1x128x512.Idx → BitVec 32) (Y : S1x128x512.Idx → F .f32) (Z : S1x128x512.Idx → BitVec 32)
    (Q : PUnit → sProp 𝕄) :
    iprop(owns (c : Thread nD τ) M2 fullShare B ∗ owns (c : Thread nD τ) M3 fullShare X ∗ owns (c : Thread nD τ) M4 fullShare T
        ∗ owns (c : Thread nD τ) M5 fullShare Y ∗ owns (c : Thread nD τ) M6 fullShare Z
        ∗ (iprop(owns (c : Thread nD τ) M2 fullShare B ∗ owns (c : Thread nD τ) M3 fullShare X ∗ owns (c : Thread nD τ) M4 fullShare T
            ∗ owns (c : Thread nD τ) M5 fullShare (psBlk X) ∗ owns (c : Thread nD τ) M6 fullShare (keyBlk B X T)) -∗ Q ⟨⟩))
      ⊢ wp frame (wpE (defs₀ (F := F)) 𝒱₀ (c : Thread nD τ) none) Set.univ (cc0__dense_body i M2 h2 M3 h3 M4 h4 M5 h5 M6 h6) Q := by
  iintro ⟨H2, H3, H4, H5, H6, Hk⟩
  ihave H2 := (take_owns (F := F) c M2 h2 B) $$ H2
  icases H2 with ⟨%f2, %e2, H2⟩
  ihave H3 := (take_owns (F := F) c M3 h3 X) $$ H3
  icases H3 with ⟨%f3, %e3, H3⟩
  ihave H4 := (take_owns (F := F) c M4 h4 T) $$ H4
  icases H4 with ⟨%f4, %e4, H4⟩
  ihave H5 := (take_owns (F := F) c M5 h5 Y) $$ H5
  icases H5 with ⟨%f5, %e5, H5⟩
  ihave H6 := (take_owns (F := F) c M6 h6 Z) $$ H6
  icases H6 with ⟨%f6, %e6, H6⟩
  subst e2 e3 e4
  iapply (dense_run c i M2 h2 M3 h3 M4 h4 M5 h5 M6 h6 f2 f3 f4 f5 f6 Q)
  isplitl [H2]; · iexact H2
  isplitl [H3]; · iexact H3
  isplitl [H4]; · iexact H4
  isplitl [H5]; · iexact H5
  isplitl [H6]; · iexact H6
  iintro ⟨H2, H3, H4, ⟨%g5, %e5, H5⟩, ⟨%g6, %e6, H6⟩⟩
  iapply Hk
  isplitl [H2]; · iapply (give_owns (F := F) c M2 h2 _ f2 rfl); iexact H2
  isplitl [H3]; · iapply (give_owns (F := F) c M3 h3 _ f3 rfl); iexact H3
  isplitl [H4]; · iapply (give_owns (F := F) c M4 h4 _ f4 rfl); iexact H4
  isplitl [H5]; · iapply (give_owns (F := F) c M5 h5 _ g5 e5); iexact H5
  iapply (give_owns (F := F) c M6 h6 _ g6 e6); iexact H6

end Cert.Proof.OnIdeal
-- ==== Proof.DensePipeOnIdeal.lean ====
/-
  The first pipeline's proof data: the kernel on every block of its grid, and the arrays it leaves.
-/
module

public import proofs.«01_k».proof.Proof.DenseOnIdeal
public import proofs.«01_k».proof.Proof.Gen.KernelIdeal.Points
public import Idealize.ShloMosaic.Lib.Pipeline.Value

@[expose] public section

set_option maxRecDepth 16384

noncomputable section

namespace Cert.Proof.OnIdeal

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : (c : Dev nD) → (r : Ref sig .tc) → Buf (Elt F) ((c : Thread nD τ).loc r))
variable (b : ℕ) (O : Dev nD → CellTallies nD τ sig (HIx 1))

/-- The bounds, and a point's blocks of logits and of targets, as the pipeline stages them. -/
abbrev blkB (c : Dev nD) (t : Fin cfg0.N) : S11.Idx → F .f32 := ((cfg0.win 0).blk t).view.read (Elt F) (V c main_v0)
abbrev blkX (c : Dev nD) (t : Fin cfg0.N) : S1x19x128x512.Idx → F .f32 := ((cfg0.win 1).blk t).view.read (Elt F) (V c main_arg0)
abbrev blkT (c : Dev nD) (t : Fin cfg0.N) : S1x128x512.Idx → BitVec 32 := ((cfg0.win 2).blk t).view.read (Elt F) (V c main_arg1)

/-- The first pipeline's proof data, from the arrays at `V`. -/
def dat0 (c : Dev nD) : Dat τ (Elt F) (HIx 1) ℕ UU ℕ cfg0 c where
  A w := V c (Pipeline.arrRef spec0 w)
  after w t := match w with
    | ⟨0, _⟩ => blkB V c t
    | ⟨1, _⟩ => blkX V c t
    | ⟨2, _⟩ => blkT V c t
    | ⟨3, _⟩ => psBlk (blkX V c t)
    | ⟨4, _⟩ => keyBlk (blkB V c t) (blkX V c t) (blkT V c t)
  Φ _ := Pipeline.scopedRest (Ix := HIx 1) (Name := ℕ) (U := UU) (Lvl := ℕ) (Val := Elt F) spec0 c
  q _ := fullShare
  owed _ := O c
  recorded _ := low (F := F) c b

theorem before0_0 (c : Dev nD) (t : Fin cfg0.N) (d) : (dat0 V b O c).before 0 t d = blkB V c t :=
  (Pipeline.Dat.before_in_eq_fetched _ 0 rfl (fun _ => rfl) (fun _ _ _ => rfl) (fun _ => rfl) t d).trans rfl
theorem before0_1 (c : Dev nD) (t : Fin cfg0.N) (d) : (dat0 V b O c).before 1 t d = blkX V c t :=
  (Pipeline.Dat.before_in_eq_fetched _ 1 rfl (fun _ => rfl) (fun _ _ _ => rfl) (fun _ => rfl) t d).trans rfl
theorem before0_2 (c : Dev nD) (t : Fin cfg0.N) (d) : (dat0 V b O c).before 2 t d = blkT V c t :=
  (Pipeline.Dat.before_in_eq_fetched _ 2 rfl (fun _ => rfl) (fun _ _ _ => rfl) (fun _ => rfl) t d).trans rfl

/-- The kernel meets the pipeline's obligation at every point. -/
theorem body0 (c : Dev nD) : BodyObligation (dat0 V b O c) (defs₀ (F := F)) 𝒱₀ none Set.univ := fun t => by
  rw [bigSep_W0, bigSep_W0]
  rw [show (dat0 V b O c).owesAt none t.succ = (dat0 V b O c).owesAt none t.castSucc from rfl,
    show (dat0 V b O c).Φ t.succ = (dat0 V b O c).Φ t.castSucc from rfl]
  iintro ⟨HΦ, Howes, ⟨%d0, H0⟩, ⟨%d1, H1⟩, ⟨%d2, H2⟩, ⟨%d3, H3⟩, ⟨%d4, H4⟩⟩
  rw [before0_0, before0_1, before0_2]
  iapply (dense_owns c (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (blkB V c t) (blkX V c t) (blkT V c t) _ _ _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Howes]; · iexact Howes
  isplitl [H0]; · iexact H0
  isplitl [H1]; · iexact H1
  isplitl [H2]; · iexact H2
  isplitl [H3]; · iexact H3
  iexact H4

/-- The arrays the first pipeline leaves: the confidences and the packed bin numbers of every pixel. -/
def psArr (c : Dev nD) : S8x512x512.Idx → F .f32 := (dat0 V b O c).arrAt 3 cfg0.N
def keyArr (c : Dev nD) : S8x512x512.Idx → BitVec 32 := (dat0 V b O c).arrAt 4 cfg0.N

end Cert.Proof.OnIdeal
-- ==== Proof.FinalPipeOnIdeal.lean ====
/-
  The second pipeline's kernel, which turns the tiles' tables of sums and counts into the calibration error: its value
  as a function of the two tables, its run, and the pipeline's proof data.
-/
module

public import proofs.«01_k».proof.Proof.RegionOnIdeal
public import proofs.«01_k».proof.Proof.Gen.KernelIdeal.Points
public import Idealize.ShloMosaic.Lib.Pipeline.Value

@[expose] public section

set_option maxRecDepth 16384

noncomputable section

namespace Cert.Proof.OnIdeal

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The calibration error, from the tables the tiles leave: `C` of summed confidences, `N` of counts. -/
def errv (C : S32x10x16.Idx → F .f32) (N : S32x20x16.Idx → F .f32) : F .f32 :=
  let v0 : Vec F S32x10x16 .f32 := View.ld (Val := Elt F) (e' := .f32) C (Rect.unit (s := S32x10x16) ![0, 0, 0] S32x10x16.size inb_S32x10x16_S32x10x16_0_0_0)
  let v3 : Vec F S32x20x16 .f32 := View.ld (Val := Elt F) (e' := .f32) N (Rect.unit (s := S32x20x16) ![0, 0, 0] S32x20x16.size inb_S32x20x16_S32x20x16_0_0_0)
  let v2 : FVec F S10x16 .f32 := k2_pay2 v0
  let v5 : FVec F S20x16 .f32 := k2_pay3 v3
  let v17 : F .f32 := k2_pay4 v3
  let v18 : F .f32 := k2_pay5 v3
  let v24 : F .f32 := k2_pay6 v0
  let v36 : F .f32 := k2_pay7 v3
  let v37 : F .f32 := k2_pay8 v3
  let v43 : F .f32 := k2_pay9 v0
  let v45 : FVec F S16 .f32 := k2_pay10 v3
  let v55 : F .f32 := k2_pay11 v5
  let v56 : F .f32 := k2_pay12 v5 v45
  let v62 : F .f32 := k2_pay13 v2
  let v74 : F .f32 := k2_pay14 v5
  let v75 : F .f32 := k2_pay15 v5
  let v81 : F .f32 := k2_pay16 v2
  let v93 : F .f32 := k2_pay17 v5
  let v94 : F .f32 := k2_pay18 v5
  let v97 : FVec F S1x16 .f32 := k2_pay19 v2
  let v100 : F .f32 := k2_pay20 v97
  let v112 : F .f32 := k2_pay21 v5
  let v113 : F .f32 := k2_pay22 v5
  let v119 : F .f32 := k2_pay23 v2
  let v131 : F .f32 := k2_pay24 v5
  let v132 : F .f32 := k2_pay25 v5
  let v138 : F .f32 := k2_pay26 v2
  let v144 : F .f32 := k2_pay27 v5
  let v148 : FVec F S1 .f32 := k2_pay28 v5
  let v150 : F .f32 := k2_pay29 v148
  let v151 : F .f32 := k2_pay30 v144 v148
  let v157 : F .f32 := k2_pay31 v2
  let v169 : F .f32 := k2_pay32 v5
  let v170 : F .f32 := k2_pay33 v5
  let v176 : F .f32 := k2_pay34 v2
  let v188 : F .f32 := k2_pay35 v5
  let v189 : F .f32 := k2_pay36 v5
  let v195 : F .f32 := k2_pay37 v2
  let v201 : F .f32 := k2_pay38 v18 v37 v56 v75 v94 v113 v132
  let v204 : F .f32 := k2_pay39 v151 v170 v189 v201
  let v249 : F .f32 := k2_pay40 v17 v18 v24 v36 v37 v43 v55 v56 v62 v74 v75 v81 v93 v94 v100 v151 v170 v189 v201
  let v254 : F .f32 := k2_pay41 v112 v113 v119
  k2_pay1 v113 v131 v132 v138 v150 v151 v157 v169 v170 v176 v188 v189 v195 v204 v249 v254

/-- The kernel on the two tables: it leaves them as they were, and the calibration error in its one cell. -/
theorem final_run (c : Dev nD) (M0 : Memref sig .tc .vmem S32x10x16 .f32) (h0 : M0.IsWhole) (M1 : Memref sig .tc .vmem S32x20x16 .f32) (h1 : M1.IsWhole)
    (M2 : Memref sig .tc .smem S1x1 .f32) (h2 : M2.IsWhole)
    (f0 : Bf (F := F) c M0) (f1 : Bf (F := F) c M1) (f2 : Bf (F := F) c M2) (Q : PUnit → sProp 𝕄) :
    iprop(pt c M0 f0 ∗ pt c M1 f1 ∗ pt c M2 f2
        ∗ (iprop(pt c M0 f0 ∗ pt c M1 f1
            ∗ ∃ g, ⌜M2.view.read (Elt F) g = fun _ => errv (M0.view.read (Elt F) f0) (M1.view.read (Elt F) f1)⌝ ∗ pt c M2 g) -∗ Q ⟨⟩))
      ⊢ wp frame (wpE (defs₀ (F := F)) 𝒱₀ (c : Thread nD τ) none) Set.univ (cc2__final_body M0 h0 M1 h1 M2 h2) Q := by
  iintro ⟨H0, H1, H2, Hk⟩
  sl_exec!
  sl_step
  iapply Hk
  isplitl [H0]; · iexact H0
  isplitl [H1]; · iexact H1
  iexists _
  isplitr; swap; · iexact H2
  ipureintro
  rw [View.read_writes_junk_eq_canon]
  unfold final_run.sl.H2_1
  exact (View.canon_unit_zero (S := S1x1) (Val := Elt F) (e := .f32) (by funext a; fin_cases a <;> rfl) _ _).trans rfl

/-- The same over the owned staging memrefs. -/
theorem final_owns (c : Dev nD) (M0 : Memref sig .tc .vmem S32x10x16 .f32) (h0 : M0.IsWhole) (M1 : Memref sig .tc .vmem S32x20x16 .f32) (h1 : M1.IsWhole)
    (M2 : Memref sig .tc .smem S1x1 .f32) (h2 : M2.IsWhole)
    (C : S32x10x16.Idx → F .f32) (N : S32x20x16.Idx → F .f32) (Y : S1x1.Idx → F .f32) (Q : PUnit → sProp 𝕄) :
    iprop(owns (c : Thread nD τ) M0 fullShare C ∗ owns (c : Thread nD τ) M1 fullShare N ∗ owns (c : Thread nD τ) M2 fullShare Y
        ∗ (iprop(owns (c : Thread nD τ) M0 fullShare C ∗ owns (c : Thread nD τ) M1 fullShare N
            ∗ owns (c : Thread nD τ) M2 fullShare (fun _ => errv C N)) -∗ Q ⟨⟩))
      ⊢ wp frame (wpE (defs₀ (F := F)) 𝒱₀ (c : Thread nD τ) none) Set.univ (cc2__final_body M0 h0 M1 h1 M2 h2) Q := by
  iintro ⟨H0, H1, H2, Hk⟩
  ihave H0 := (take_owns (F := F) c M0 h0 C) $$ H0
  icases H0 with ⟨%f0, %e0, H0⟩
  ihave H1 := (take_owns (F := F) c M1 h1 N) $$ H1
  icases H1 with ⟨%f1, %e1, H1⟩
  ihave H2 := (take_owns (F := F) c M2 h2 Y) $$ H2
  icases H2 with ⟨%f2, %e2, H2⟩
  subst e0 e1
  iapply (final_run c M0 h0 M1 h1 M2 h2 f0 f1 f2 Q)
  isplitl [H0]; · iexact H0
  isplitl [H1]; · iexact H1
  isplitl [H2]; · iexact H2
  iintro ⟨H0, H1, ⟨%g2, %e2, H2⟩⟩
  iapply Hk
  isplitl [H0]; · iapply (give_owns (F := F) c M0 h0 _ f0 rfl); iexact H0
  isplitl [H1]; · iapply (give_owns (F := F) c M1 h1 _ f1 rfl); iexact H1
  iapply (give_owns (F := F) c M2 h2 _ g2 e2); iexact H2

variable (V : (c : Dev nD) → (r : Ref sig .tc) → Buf (Elt F) ((c : Thread nD τ).loc r))
variable (b : ℕ) (O : Dev nD → CellTallies nD τ sig (HIx 1))

/-- The tables as the pipeline stages them. -/
abbrev blkC (c : Dev nD) : S32x10x16.Idx → F .f32 := ((cfg2.win 0).blk t2_0).view.read (Elt F) (V c main_v5)
abbrev blkN (c : Dev nD) : S32x20x16.Idx → F .f32 := ((cfg2.win 1).blk t2_0).view.read (Elt F) (V c main_v6)

/-- The second pipeline's proof data, from the arrays at `V`. -/
def dat2 (c : Dev nD) : Dat τ (Elt F) (HIx 1) ℕ UU ℕ cfg2 c where
  A w := V c (Pipeline.arrRef spec2 w)
  after w t := match w with
    | ⟨0, _⟩ => blkC V c
    | ⟨1, _⟩ => blkN V c
    | ⟨2, _⟩ => fun _ => errv (blkC V c) (blkN V c)
  Φ _ := Pipeline.scopedRest (Ix := HIx 1) (Name := ℕ) (U := UU) (Lvl := ℕ) (Val := Elt F) spec2 c
  q _ := fullShare
  owed _ := O c
  recorded _ := low (F := F) c b

theorem before2_0 (c : Dev nD) (d) : (dat2 V b O c).before 0 t2_0 d = blkC V c := by
  unfold Dat.before; rw [if_pos (by decide)]; rfl
theorem before2_1 (c : Dev nD) (d) : (dat2 V b O c).before 1 t2_0 d = blkN V c := by
  unfold Dat.before; rw [if_pos (by decide)]; rfl

/-- The kernel meets the pipeline's obligation at its one point. -/
theorem body2 (c : Dev nD) : BodyObligation (dat2 V b O c) (defs₀ (F := F)) 𝒱₀ none Set.univ := fun t => by
  obtain rfl := fin_N2 t
  rw [bigSep_W2, bigSep_W2]
  rw [show (dat2 V b O c).owesAt none t2_0.succ = (dat2 V b O c).owesAt none t2_0.castSucc from rfl,
    show (dat2 V b O c).Φ t2_0.succ = (dat2 V b O c).Φ t2_0.castSucc from rfl]
  iintro ⟨HΦ, Howes, ⟨%d0, H0⟩, ⟨%d1, H1⟩, ⟨%d2, H2⟩⟩
  rw [before2_0, before2_1]
  iapply (final_owns c (win2_0.stage (cfg2.slots t2_0 0)) (hstage2_0 0) (win2_1.stage (cfg2.slots t2_0 1)) (hstage2_1 0)
    (win2_2.stage (cfg2.slots t2_0 2)) (hstage2_2 0) (blkC V c) (blkN V c) _ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  iexact H2

/-- The one cell the second pipeline leaves. -/
def errArr (c : Dev nD) : S1x1.Idx → F .f32 := (dat2 V b O c).arrAt 2 cfg2.N

end Cert.Proof.OnIdeal
-- ==== Proof.StatesOnIdeal.lean ====
/-
  The program's host operations as lists, and the contents of the TensorCore's arrays at each stage of its run: at the
  launch, after the bounds, after the first pipeline, after the SparseCore call, after the second pipeline, at the end.
-/
module

public import proofs.«01_k».proof.Proof.DensePipeOnIdeal
public import proofs.«01_k».proof.Proof.FinalPipeOnIdeal

@[expose] public section

set_option maxRecDepth 16384

noncomputable section

namespace Cert.Proof.OnIdeal

open Cert.KernelIdeal Cert.KernelIdeal.Gen

open Idealize.ShloMosaic
open Idealize.ShloMosaic.TcCoe Idealize.ShloMosaic.Tactic
open Idealize.ShloMosaic.SparseCore.Cfg (HIx)
open Idealize.SL.Sem (Prog)
open Idealize.ShloMosaic.Pipeline (Dat Cfg Window BodyObligation cellOf)

variable {F : FTy → Type} [FloatOps F]

/-- The stretch before the first pipeline: the eleven bounds of the bins. -/
abbrev opsA : List (HloOp τ sig (Elt F)) :=
  [StableHlo.nullary main_cst (constant S_ .f32 0x00000000#32),
   StableHlo.nullary main_cst_0 (constant S_ .f32 0x3F800000#32),
   StableHlo.TRef.unary (.of main_cst) main_call0.v0 id,
   StableHlo.TRef.unary (.of main_cst_0) main_call0.v1 id,
   StableHlo.TRef.binary main_call0.v1 main_call0.v0 main_call0.v2 subf,
   StableHlo.TRef.nullary main_call0.cst (constant S_ .f32 0x41200000#32),
   StableHlo.TRef.binary main_call0.v2 main_call0.cst main_call0.v3 Host.divf,
   StableHlo.TRef.nullary main_call0.v4 (sitofp .f32 (iotaInDim S10 32 0)),
   StableHlo.TRef.nullary main_call0.cst_0 (constant S_ .f32 0x41200000#32),
   StableHlo.TRef.unary main_call0.cst_0 main_call0.v5 (broadcastInDim S10 ![] bcast_S_S10),
   StableHlo.TRef.binary main_call0.v4 main_call0.v5 main_call0.v6 Host.divf,
   StableHlo.TRef.reshape main_call0.v0 main_call0.v7 (rfl : (.f32 : EltTy) = .f32) shapeCasts_S_S1,
   StableHlo.TRef.nullary main_call0.cst_1 (constant S_ .f32 0x3F800000#32),
   StableHlo.TRef.unary main_call0.cst_1 main_call0.v8 (broadcastInDim S10 ![] bcast_S_S10),
   StableHlo.TRef.binary main_call0.v8 main_call0.v6 main_call0.v9 subf,
   StableHlo.TRef.unary main_call0.v7 main_call0.v10 (broadcastInDim S10 ![0] bcast_S1_S10_0),
   StableHlo.TRef.binary main_call0.v10 main_call0.v9 main_call0.v11 mulf,
   StableHlo.TRef.reshape main_call0.v1 main_call0.v12 (rfl : (.f32 : EltTy) = .f32) shapeCasts_S_S1,
   StableHlo.TRef.unary main_call0.v12 main_call0.v13 (broadcastInDim S10 ![0] bcast_S1_S10_0),
   StableHlo.TRef.binary main_call0.v13 main_call0.v6 main_call0.v14 mulf,
   StableHlo.TRef.binary main_call0.v11 main_call0.v14 main_call0.v15 addf,
   StableHlo.TRef.unary main_call0.v1 main_call0.v16 (broadcastInDim S1 ![] bcast_S_S1),
   StableHlo.TRef.binary main_call0.v15 main_call0.v16 main_call0.v17
     (fun a b => concatenate S11 0 [⟨S10, a⟩, ⟨S1, b⟩] concatenates_S10_S1_S11_d0)]

/-- The stretch between the first pipeline and the SparseCore call: the two images laid out as lines. -/
abbrev opsB : List (HloOp τ sig (Elt F)) :=
  [StableHlo.reshape main_v1_0 main_v2 (rfl : (.f32 : EltTy) = .f32) shapeCasts_S8x512x512_S2097152,
   StableHlo.reshape main_v1_1 main_v3 (rfl : (.i32 : EltTy) = .i32) shapeCasts_S8x512x512_S2097152]

/-- The stretch between the SparseCore call and the second pipeline: the tables by tile, bin and lane. -/
abbrev opsC : List (HloOp τ sig (Elt F)) :=
  [StableHlo.reshape main_v4_0 main_v5 (rfl : (.f32 : EltTy) = .f32) shapeCasts_S32x160_S32x10x16,
   StableHlo.reshape main_v4_1 main_v6 (rfl : (.f32 : EltTy) = .f32) shapeCasts_S32x320_S32x20x16]

/-- The stretch after the second pipeline: the result as a scalar. -/
abbrev opsD : List (HloOp τ sig (Elt F)) :=
  [StableHlo.reshape main_v7 main_v8 (rfl : (.f32 : EltTy) = .f32) shapeCasts_S1x1_S_]

open StableHlo (seq) in
/-- The program is its four stretches, with the two pipelines and the SparseCore call between them. -/
theorem main_eq (d : Dev nD) : main (F := F) d =
    (seq (opsA (F := F)) >>= fun _ => SparseCore.liftProg (Q := 1) (.op (.customCall (Pipeline.entry (0 : Fin 2)) ()) .ret : Prog (TpuEff nD τ sig (Elt F) (ΛP (F := F)) .tc) PUnit) >>= fun _ =>
      seq opsB >>= fun _ => (K (F := F)).run d 0 >>= fun _ =>
      seq opsC >>= fun _ => SparseCore.liftProg (Q := 1) (.op (.customCall (Pipeline.entry (1 : Fin 2)) ()) .ret : Prog (TpuEff nD τ sig (Elt F) (ΛP (F := F)) .tc) PUnit) >>= fun _ =>
      seq opsD >>= fun _ => pure ⟨⟩) := rfl

/-! ## The contents at each stage -/

variable (m : (ℓ : Loc nD τ sig) → Buf (Elt F) ℓ)

/-- The arrays' contents as the pipelines name them. -/
abbrev Vw (W : Dev nD → Valuation τ sig (Elt F)) : (c : Dev nD) → (r : Ref sig .tc) → Buf (Elt F) ((c : Thread nD τ).loc r) := fun c r => W c r

/-- The levels of the waits before and after the SparseCore call, and the credits then owed. -/
abbrev b0 : ℕ := 8 * SparseCore.Cfg.Blocks.fst (Q := 1) (N := 1) 0
abbrev b1 : ℕ := 8 * SparseCore.Cfg.Blocks.fst (Q := 1) (N := 1) 1
abbrev O0 : Dev nD → CellTallies nD τ sig (HIx 1) := fun d => (K (F := F)).Otc d 0
abbrev O1 : Dev nD → CellTallies nD τ sig (HIx 1) := fun d => (K (F := F)).Otc d 1

/-- At the launch. -/
def W0 (d : Dev nD) : Valuation τ sig (Elt F) := fun b => m (d, b)
/-- After the bounds. -/
def W1 (d : Dev nD) : Valuation τ sig (Elt F) := StableHlo.after opsA (W0 m d)
/-- After the first pipeline. -/
def W2 (d : Dev nD) : Valuation τ sig (Elt F) :=
  Function.update (Function.update (W1 m d) main_v1_0 (psArr (Vw (W1 m)) b0 (O0 (F := F)) d)) main_v1_1 (keyArr (Vw (W1 m)) b0 (O0 (F := F)) d)
/-- With the lines laid out. -/
def W3 (d : Dev nD) : Valuation τ sig (Elt F) := StableHlo.after opsB (W2 m d)
/-- The lines that the SparseCores read. -/
def psL (d : Dev nD) : S2097152.Idx → F .f32 := W3 m d main_v2
def keyL (d : Dev nD) : S2097152.Idx → BitVec 32 := W3 m d main_v3
/-- After the SparseCore call. -/
def W4 (d : Dev nD) : Valuation τ sig (Elt F) :=
  Function.update (Function.update (W3 m d) main_v4_0 (confRes (psL m d) (keyL m d))) main_v4_1 (cntRes (F := F) (keyL m d))
/-- With the tables laid out. -/
def W5 (d : Dev nD) : Valuation τ sig (Elt F) := StableHlo.after opsC (W4 m d)
/-- After the second pipeline. -/
def W6 (d : Dev nD) : Valuation τ sig (Elt F) := Function.update (W5 m d) main_v7 (errArr (Vw (W5 m)) b1 (O1 (F := F)) d)
/-- At the end. -/
def W7 (d : Dev nD) : Valuation τ sig (Elt F) := StableHlo.after opsD (W6 m d)

/-! ## The pipelines' passages -/

/-- The proof data before and after the call. -/
abbrev datsA (V : (c : Dev nD) → (r : Ref sig .tc) → Buf (Elt F) ((c : Thread nD τ).loc r)) (b : ℕ) (O : Dev nD → CellTallies nD τ sig (HIx 1)) : Dats (F := F)
  | 0, c => dat0 V b O c
  | 1, c => dat2 V b O c

theorem Otc_none (n : ℕ) (d : Dev nD) (g : GSem nD τ sig) : (K (F := F)).Otc d n g (none : HIx 1) = 0 := by
  by_contra h
  have := SparseCore.Cfg.lev_of_Otc_pos (Nat.pos_of_ne_zero h)
  rw [SparseCore.Cfg.lev_none] at this
  omega

theorem W2_v1_0 (d : Dev nD) : W2 m d main_v1_0 = psArr (Vw (W1 m)) b0 (O0 (F := F)) d := by
  unfold W2
  rw [Function.update_of_ne (StableHlo.devRef_ne_of_ne (by decide)), Function.update_self]
theorem W2_v1_1 (d : Dev nD) : W2 m d main_v1_1 = keyArr (Vw (W1 m)) b0 (O0 (F := F)) d := by
  unfold W2
  rw [Function.update_self]
theorem W2_ne (d : Dev nD) (r : Ref sig .tc) (h0 : r ≠ main_v1_0) (h1 : r ≠ main_v1_1) : W2 m d r = W1 m d r := by
  unfold W2
  rw [Function.update_of_ne (StableHlo.devRef_ne_of_ne h1), Function.update_of_ne (StableHlo.devRef_ne_of_ne h0)]
theorem W4_v4_0 (d : Dev nD) : W4 m d main_v4_0 = confRes (psL m d) (keyL m d) := by
  unfold W4
  rw [Function.update_of_ne (StableHlo.devRef_ne_of_ne (by decide)), Function.update_self]
theorem W4_v4_1 (d : Dev nD) : W4 m d main_v4_1 = cntRes (F := F) (keyL m d) := by
  unfold W4
  rw [Function.update_self]
theorem W4_ne (d : Dev nD) (r : DevRef τ sig) (h0 : r ≠ main_v4_0) (h1 : r ≠ main_v4_1) : W4 m d r = W3 m d r := by
  unfold W4
  rw [Function.update_of_ne h1, Function.update_of_ne h0]
theorem W6_v7 (d : Dev nD) : W6 m d main_v7 = errArr (Vw (W5 m)) b1 (O1 (F := F)) d := by
  unfold W6
  rw [Function.update_self]
theorem W6_ne (d : Dev nD) (r : Ref sig .tc) (h0 : r ≠ main_v7) : W6 m d r = W5 m d r := by
  unfold W6
  rw [Function.update_of_ne (StableHlo.devRef_ne_of_ne h0)]

/-- Through the first pipeline. -/
def regionA : Pipeline.RegionSeg (pcfgs (F := F)) adm (datsA (Vw (W1 m)) b0 (O0 (F := F))) none defs₀ 𝒱₀ (K (F := F)).L (K (F := F)).lev 0 :=
  region 0 (datsA (Vw (W1 m)) b0 (O0 (F := F))) launch0 b0 (O0 (F := F)) (fun c g => Otc_none 0 c g) (Vw (W1 m)) (Vw (W2 m))
    (fun c => body0 _ _ _ c) (fun _ _ => rfl) (fun _ _ => rfl) (fun _ _ => rfl) (fun _ _ => rfl) (fun _ _ => rfl)
    (fun c w => by
      match w with
      | ⟨0, _⟩ => exact (Dat.arrAt_in (dat0 (Vw (W1 m)) b0 (O0 (F := F)) c) 0 rfl cfg0.N).trans (W2_ne m c main_v0 (by decide) (by decide)).symm
      | ⟨1, _⟩ => exact (Dat.arrAt_in (dat0 (Vw (W1 m)) b0 (O0 (F := F)) c) 1 rfl cfg0.N).trans (W2_ne m c main_arg0 (by decide) (by decide)).symm
      | ⟨2, _⟩ => exact (Dat.arrAt_in (dat0 (Vw (W1 m)) b0 (O0 (F := F)) c) 2 rfl cfg0.N).trans (W2_ne m c main_arg1 (by decide) (by decide)).symm
      | ⟨3, _⟩ => exact (W2_v1_0 m c).symm
      | ⟨4, _⟩ => exact (W2_v1_1 m c).symm)
    (fun c r hr => W2_ne m c r
      (fun e => hr (Finset.mem_image.mpr ⟨3, Finset.mem_univ _, e.symm⟩))
      (fun e => hr (Finset.mem_image.mpr ⟨4, Finset.mem_univ _, e.symm⟩)))

section Second
attribute [local irreducible] W5 W6 errArr

theorem errN (c : Dev nD) (w : Fin cfg2.W) :
    (dat2 (Vw (W5 m)) b1 (O1 (F := F)) c).arrAt w cfg2.N = Vw (W6 m) c (Pipeline.arrRef spec2 w) := by
  match w with
  | ⟨0, _⟩ => exact (Dat.arrAt_in (dat2 (Vw (W5 m)) b1 (O1 (F := F)) c) 0 rfl cfg2.N).trans (W6_ne m c main_v5 (by decide)).symm
  | ⟨1, _⟩ => exact (Dat.arrAt_in (dat2 (Vw (W5 m)) b1 (O1 (F := F)) c) 1 rfl cfg2.N).trans (W6_ne m c main_v6 (by decide)).symm
  | ⟨2, _⟩ =>
    have e := W6_v7 m c
    unfold errArr at e
    exact e.symm

/-- Through the second pipeline. -/
def regionB : Pipeline.RegionSeg (pcfgs (F := F)) adm (datsA (Vw (W5 m)) b1 (O1 (F := F))) none defs₀ 𝒱₀ (K (F := F)).L (K (F := F)).lev 1 :=
  region 1 (datsA (Vw (W5 m)) b1 (O1 (F := F))) launch2 b1 (O1 (F := F)) (fun c g => Otc_none 1 c g) (Vw (W5 m)) (Vw (W6 m))
    (fun c => body2 _ _ _ c) (fun _ _ => rfl) (fun _ _ => rfl) (fun _ _ => rfl) (fun _ _ => rfl) (fun _ _ => rfl)
    (errN m)
    (fun c r hr => W6_ne m c r (fun e => hr (Finset.mem_image.mpr ⟨2, Finset.mem_univ _, e.symm⟩)))

end Second

/-! ## What the end holds of the arguments -/

theorem opsA_sub : ∀ op ∈ opsA (F := F), op.bufs ⊆ StableHlo.tcRefs τ sig :=
  List.forall_iff_forall_mem.mp (show List.Forall _ _ from ⟨StableHlo.nullary_bufs_sub .., StableHlo.nullary_bufs_sub .., StableHlo.unary_bufs_sub .., StableHlo.unary_bufs_sub .., StableHlo.binary_bufs_sub ..,
    StableHlo.nullary_bufs_sub .., StableHlo.binary_bufs_sub .., StableHlo.nullary_bufs_sub .., StableHlo.nullary_bufs_sub .., StableHlo.unary_bufs_sub ..,
    StableHlo.binary_bufs_sub .., StableHlo.reshape_bufs_sub .., StableHlo.nullary_bufs_sub .., StableHlo.unary_bufs_sub .., StableHlo.binary_bufs_sub ..,
    StableHlo.unary_bufs_sub .., StableHlo.binary_bufs_sub .., StableHlo.reshape_bufs_sub .., StableHlo.unary_bufs_sub .., StableHlo.binary_bufs_sub ..,
    StableHlo.binary_bufs_sub .., StableHlo.unary_bufs_sub .., StableHlo.binary_bufs_sub ..⟩)
theorem opsA_fresh : ∀ op ∈ opsA (F := F), op.fresh = ∅ :=
  List.forall_iff_forall_mem.mp (show List.Forall _ _ from ⟨rfl, rfl, rfl, rfl, rfl, rfl, rfl, rfl, rfl, rfl, rfl, rfl, rfl, rfl, rfl, rfl, rfl, rfl, rfl, rfl, rfl, rfl, rfl⟩)
theorem opsB_sub : ∀ op ∈ opsB (F := F), op.bufs ⊆ StableHlo.tcRefs τ sig := by
  intro op h
  simp only [opsB, List.mem_cons, List.not_mem_nil, or_false] at h
  rcases h with rfl | rfl <;> exact StableHlo.reshape_bufs_sub ..
theorem opsB_fresh : ∀ op ∈ opsB (F := F), op.fresh = ∅ := by
  intro op h
  simp only [opsB, List.mem_cons, List.not_mem_nil, or_false] at h
  rcases h with rfl | rfl <;> rfl
theorem opsC_sub : ∀ op ∈ opsC (F := F), op.bufs ⊆ StableHlo.tcRefs τ sig := by
  intro op h
  simp only [opsC, List.mem_cons, List.not_mem_nil, or_false] at h
  rcases h with rfl | rfl <;> exact StableHlo.reshape_bufs_sub ..
theorem opsC_fresh : ∀ op ∈ opsC (F := F), op.fresh = ∅ := by
  intro op h
  simp only [opsC, List.mem_cons, List.not_mem_nil, or_false] at h
  rcases h with rfl | rfl <;> rfl
theorem opsD_sub : ∀ op ∈ opsD (F := F), op.bufs ⊆ StableHlo.tcRefs τ sig := by
  intro op h
  simp only [opsD, List.mem_cons, List.not_mem_nil, or_false] at h
  rcases h with rfl; exact StableHlo.reshape_bufs_sub ..
theorem opsD_fresh : ∀ op ∈ opsD (F := F), op.fresh = ∅ := by
  intro op h
  simp only [opsD, List.mem_cons, List.not_mem_nil, or_false] at h
  rcases h with rfl; rfl

/-- What the bounds' operations write. -/
abbrev outsA : List (Ref sig .tc) := [main_cst, main_cst_0, main_call0_v0, main_call0_v1, main_call0_v2, main_call0_cst, main_call0_v3, main_call0_v4, main_call0_cst_0, main_call0_v5, main_call0_v6,
  main_call0_v7, main_call0_cst_1, main_call0_v8, main_call0_v9, main_call0_v10, main_call0_v11, main_call0_v12, main_call0_v13, main_call0_v14, main_call0_v15, main_call0_v16, main_v0]
theorem opsA_writes : (opsA (F := F)).Forall fun op => op.writes ⊆ (outsA.map (Proc.devRef (τ := τ) .tc)).toFinset :=
  StableHlo.forall_writes_sub_of_map rfl
theorem W1_arg0 (d : Dev nD) : W1 m d main_arg0 = m (d, (main_arg0 : DevRef τ sig)) :=
  StableHlo.after_of_writes_sub opsA (W0 m d) opsA_writes (by decide)
theorem W1_arg1 (d : Dev nD) : W1 m d main_arg1 = m (d, (main_arg1 : DevRef τ sig)) :=
  StableHlo.after_of_writes_sub opsA (W0 m d) opsA_writes (by decide)

/-- A reference that neither the later stretches nor the pipelines nor the call write ends as the bounds leave it. -/
theorem W7_keep (d : Dev nD) (r : Ref sig .tc) (h8 : r ≠ main_v8) (h7 : r ≠ main_v7) (h6 : r ≠ main_v6) (h5 : r ≠ main_v5)
    (h40 : r ≠ main_v4_0) (h41 : r ≠ main_v4_1) (h3 : r ≠ main_v3) (h2 : r ≠ main_v2) (h10 : r ≠ main_v1_0) (h11 : r ≠ main_v1_1) :
    W7 m d r = W1 m d r := by
  unfold W7
  rw [StableHlo.after_cons, StableHlo.after_nil, StableHlo.reshape_result_ne (h := h8), W6_ne m d r h7]
  unfold W5
  rw [StableHlo.after_cons, StableHlo.after_cons, StableHlo.after_nil, StableHlo.reshape_result_ne (h := h6), StableHlo.reshape_result_ne (h := h5),
    W4_ne m d r (StableHlo.devRef_ne_of_ne h40) (StableHlo.devRef_ne_of_ne h41)]
  unfold W3
  rw [StableHlo.after_cons, StableHlo.after_cons, StableHlo.after_nil, StableHlo.reshape_result_ne (h := h3), StableHlo.reshape_result_ne (h := h2),
    W2_ne m d r h10 h11]

/-- The logits and the targets end as they began. -/
theorem W7_arg0 (d : Dev nD) : W7 m d main_arg0 = m (d, (main_arg0 : DevRef τ sig)) :=
  (W7_keep m d main_arg0 (by decide) (by decide) (by decide) (by decide) (by decide) (by decide) (by decide) (by decide) (by decide) (by decide)).trans (W1_arg0 m d)
theorem W7_arg1 (d : Dev nD) : W7 m d main_arg1 = m (d, (main_arg1 : DevRef τ sig)) :=
  (W7_keep m d main_arg1 (by decide) (by decide) (by decide) (by decide) (by decide) (by decide) (by decide) (by decide) (by decide) (by decide)).trans (W1_arg1 m d)

end Cert.Proof.OnIdeal
-- ==== Proof.ImageOnIdeal.lean ====
/-
  The two arrays that the first pipeline leaves, pixel by pixel: each pixel is in the block of one point of the grid, and
  holds what the kernel computes of that block. The packed bin numbers are all below twenty.
-/
module

public import proofs.«01_k».proof.Proof.DensePipeOnIdeal
public import proofs.«01_k».proof.Proof.Gen.KernelIdeal.Points
public import Idealize.ShloMosaic.Lib.Pipeline.Value
public import Idealize.ShloMosaic.Lib.Pipeline.ValueKit.Geometry

@[expose] public section

set_option maxRecDepth 16384

noncomputable section

namespace Cert.Proof.OnIdeal

open Cert.KernelIdeal Cert.KernelIdeal.Gen

open Idealize.ShloMosaic
open Idealize.ShloMosaic.TcCoe Idealize.ShloMosaic.Tactic
open Idealize.ShloMosaic.SparseCore.Cfg (HIx)
open Idealize.ShloMosaic.Pipeline (Dat Cfg Window BodyObligation cellOf)

variable {F : FTy → Type} [FloatOps F]
variable (V : (c : Dev nD) → (r : Ref sig .tc) → Buf (Elt F) ((c : Thread nD τ).loc r))
variable (b : ℕ) (O : Dev nD → CellTallies nD τ sig (HIx 1))

/-- Where the windows' blocks lie, by the number of the point. -/
theorem index1 : ∀ t : Fin cfg0.N, win0_1.index t = ![t.val / 4, 0, t.val % 4, 0] := by
  exact (by decide +kernel : ∀ t : Fin grid0.N, win0_1.index t = ![t.val / 4, 0, t.val % 4, 0])
theorem index2 : ∀ t : Fin cfg0.N, win0_2.index t = ![t.val / 4, t.val % 4, 0] := by
  exact (by decide +kernel : ∀ t : Fin grid0.N, win0_2.index t = ![t.val / 4, t.val % 4, 0])
theorem index3 : ∀ t : Fin cfg0.N, win0_3.index t = ![t.val / 4, t.val % 4, 0] := by
  exact (by decide +kernel : ∀ t : Fin grid0.N, win0_3.index t = ![t.val / 4, t.val % 4, 0])
theorem index4 : ∀ t : Fin cfg0.N, win0_4.index t = ![t.val / 4, t.val % 4, 0] := by
  exact (by decide +kernel : ∀ t : Fin grid0.N, win0_4.index t = ![t.val / 4, t.val % 4, 0])

/-- The point whose block holds a pixel. -/
def pointOf (j : S8x512x512.Idx) : Fin cfg0.N :=
  ⟨4 * (j 0).val + (j 1).val / 128, by
    have h0 : (j 0).val < 8 := (j 0).isLt
    have h1 : (j 1).val < 512 := (j 1).isLt
    show _ < grid0.N
    rw [N_0]; omega⟩
/-- The pixel's place in that block. -/
def placeOf (j : S8x512x512.Idx) : S1x128x512.Idx
  | 0 => ⟨0, Nat.one_pos⟩
  | 1 => ⟨(j 1).val % 128, Nat.mod_lt _ (by decide)⟩
  | 2 => j 2
  | ⟨_ + 3, h⟩ => absurd h (Nat.not_lt.2 (Nat.le_add_left _ _))

theorem pointOf_emb3 (t : Fin cfg0.N) (y) : pointOf (((cfg0.win 3).blk t).view.emb y) = t := by
  apply Fin.ext
  have h0 : (y 0).val < 1 := (y 0).isLt
  have h1 : (y 1).val < 128 := (y 1).isLt
  have e0 : ((((cfg0.win 3).blk t).view.emb y) 0 : ℕ) = t.val / 4 * 1 + (y 0).val := by
    blk_simp [index3]
  have e1 : ((((cfg0.win 3).blk t).view.emb y) 1 : ℕ) = t.val % 4 * 128 + (y 1).val := by
    blk_simp [index3]
  unfold pointOf
  simp only
  rw [e0, e1]
  omega

theorem placeOf_emb3 (t : Fin cfg0.N) (y : S1x128x512.Idx) : placeOf (((cfg0.win 3).blk t).view.emb y) = y := by
  funext a
  apply Fin.ext
  have h0 : (y 0).val < 1 := (y 0).isLt
  have h1 : (y 1).val < 128 := (y 1).isLt
  match a with
  | 0 => show 0 = (y 0).val; omega
  | 1 =>
    have e1 : ((((cfg0.win 3).blk t).view.emb y) 1 : ℕ) = t.val % 4 * 128 + (y 1).val := by
      blk_simp [index3]
    show ((((cfg0.win 3).blk t).view.emb y) 1 : ℕ) % 128 = (y 1).val
    rw [e1]; omega
  | ⟨_ + 3, h⟩ => exact absurd h (Nat.not_lt.2 (Nat.le_add_left _ _))
  | 2 =>
    have e2 : ((((cfg0.win 3).blk t).view.emb y) 2 : ℕ) = 0 * 512 + (y 2).val := by
      blk_simp [index3]
    show ((((cfg0.win 3).blk t).view.emb y) 2 : ℕ) = (y 2).val
    rw [e2]; omega

/-- The confidences, pixel by pixel. -/
def psAt (c : Dev nD) (j : S8x512x512.Idx) : F .f32 := psBlk (blkX V c (pointOf j)) (placeOf j)
/-- The packed bin numbers, pixel by pixel. -/
def keyAt (c : Dev nD) (j : S8x512x512.Idx) : BitVec 32 :=
  keyBlk (blkB V c (pointOf j)) (blkX V c (pointOf j)) (blkT V c (pointOf j)) (placeOf j)

theorem cover3 (j : S8x512x512.Idx) : j ∈ ((cfg0.win 3).blk (pointOf j)).view.set := by
  have h0 : (j 0).val < 8 := (j 0).isLt
  have h1 : (j 1).val < 512 := (j 1).isLt
  have h2 : (j 2).val < 512 := (j 2).isLt
  have hp : (pointOf j).val = 4 * (j 0).val + (j 1).val / 128 := rfl
  mem_blk [index3]
  rw [hp]
  refine ⟨⟨?_, ?_⟩, ⟨?_, ?_⟩, ?_, ?_⟩ <;> omega

theorem cover4 (j : S8x512x512.Idx) : j ∈ ((cfg0.win 4).blk (pointOf j)).view.set := by
  have h0 : (j 0).val < 8 := (j 0).isLt
  have h1 : (j 1).val < 512 := (j 1).isLt
  have h2 : (j 2).val < 512 := (j 2).isLt
  have hp : (pointOf j).val = 4 * (j 0).val + (j 1).val / 128 := rfl
  mem_blk [index4]
  rw [hp]
  refine ⟨⟨?_, ?_⟩, ⟨?_, ?_⟩, ?_, ?_⟩ <;> omega

theorem psArr_eq (c : Dev nD) : psArr V b O c = psAt V c := by
  refine (dat0 V b O c).arrAt_eq_of_cover 3 (psAt V c) (fun t _ => ?_) (fun j => ⟨pointOf j, flush0_3 _, cover3 j⟩)
  funext y
  show psBlk (blkX V c t) y = psAt V c (((cfg0.win 3).blk t).view.emb y)
  unfold psAt
  rw [pointOf_emb3, placeOf_emb3]

theorem keyArr_eq (c : Dev nD) : keyArr V b O c = keyAt V c := by
  refine (dat0 V b O c).arrAt_eq_of_cover 4 (keyAt V c) (fun t _ => ?_) (fun j => ⟨pointOf j, flush0_4 _, cover4 j⟩)
  funext y
  show keyBlk (blkB V c t) (blkX V c t) (blkT V c t) y = keyAt V c (((cfg0.win 3).blk t).view.emb y)
  unfold keyAt
  rw [pointOf_emb3, placeOf_emb3]

/-! ## The range of the packed bin numbers -/

theorem bit_le (x : BitVec 1) : (x.setWidth 32).toNat ≤ 1 := by
  have := x.isLt
  rw [BitVec.toNat_setWidth, Nat.mod_eq_of_lt (by omega)]; omega

/-- One, where a confidence is above a bound. -/
def above (p q : F .f32) : BitVec 32 := (FloatOps.cmpf CmpFPredicate.ogt p q).setWidth 32
/-- Of a confidence, the nine inner bounds, the predicted and the true class: twice the number of bounds below the
    confidence, and one more where the classes agree. -/
def keyOf (p : F .f32) (b1 b2 b3 b4 b5 b6 b7 b8 b9 : F .f32) (a t : BitVec 32) : BitVec 32 :=
  (0#32 + above p b1 + above p b2 + above p b3 + above p b4 + above p b5 + above p b6 + above p b7 + above p b8 + above p b9) * 2#32
    + (IntOp.cmpi CmpIPredicate.eq a t).setWidth 32

theorem keyOf_lt (p : F .f32) (b1 b2 b3 b4 b5 b6 b7 b8 b9 : F .f32) (a t : BitVec 32) : (keyOf p b1 b2 b3 b4 b5 b6 b7 b8 b9 a t).toNat < 20 := by
  unfold keyOf above
  generalize (FloatOps.cmpf CmpFPredicate.ogt p b1) = x1
  generalize (FloatOps.cmpf CmpFPredicate.ogt p b2) = x2
  generalize (FloatOps.cmpf CmpFPredicate.ogt p b3) = x3
  generalize (FloatOps.cmpf CmpFPredicate.ogt p b4) = x4
  generalize (FloatOps.cmpf CmpFPredicate.ogt p b5) = x5
  generalize (FloatOps.cmpf CmpFPredicate.ogt p b6) = x6
  generalize (FloatOps.cmpf CmpFPredicate.ogt p b7) = x7
  generalize (FloatOps.cmpf CmpFPredicate.ogt p b8) = x8
  generalize (FloatOps.cmpf CmpFPredicate.ogt p b9) = x9
  generalize IntOp.cmpi CmpIPredicate.eq a t = x0
  have h0 := bit_le x0; have h1 := bit_le x1; have h2 := bit_le x2; have h3 := bit_le x3; have h4 := bit_le x4
  have h5 := bit_le x5; have h6 := bit_le x6; have h7 := bit_le x7; have h8 := bit_le x8; have h9 := bit_le x9
  simp only [BitVec.toNat_add, BitVec.toNat_mul, BitVec.toNat_ofNat]
  omega

/-- A pixel of a block without the unit axis. -/
def flat (j : S1x128x512.Idx) : S128x512.Idx := fun a => j a.succ

theorem keyBlk_eq (B : S11.Idx → F .f32) (X : S1x19x128x512.Idx → F .f32) (T : S1x128x512.Idx → BitVec 32) (j : S1x128x512.Idx) :
    keyBlk B X T j = keyOf (psv X (flat j)) (bnd B 1 inb_S11_S1_1) (bnd B 2 inb_S11_S1_2) (bnd B 3 inb_S11_S1_3)
      (bnd B 4 inb_S11_S1_4) (bnd B 5 inb_S11_S1_5) (bnd B 6 inb_S11_S1_6) (bnd B 7 inb_S11_S1_7) (bnd B 8 inb_S11_S1_8) (bnd B 9 inb_S11_S1_9)
      (arg18 X (flat j)) (shapeCast S128x512 (tgt (F := F) T) shapeCasts_S1x128x512_S128x512 (flat j)) := by
  unfold keyBlk k0_pay2 k0_pay68 k0_pay67
  refine (shapeCast_addUnit_apply ![128, 512] _ _ j).trans ?_
  rfl

theorem psBlk_eq (X : S1x19x128x512.Idx → F .f32) (j : S1x128x512.Idx) : psBlk X j = psv X (flat j) := by
  unfold psBlk k0_pay1
  exact shapeCast_addUnit_apply ![128, 512] _ _ j

theorem keyAt_lt (c : Dev nD) (j : S8x512x512.Idx) : (keyAt V c j).toNat < 20 := by
  unfold keyAt
  rw [keyBlk_eq]
  exact keyOf_lt ..

end Cert.Proof.OnIdeal
-- ==== Proof.TileOnIdeal.lean ====
/-
  One tile of the histogram kernel, run: from its read shares of the two lines and its rows of the tables, the kernel
  ends with those rows at the tile's histogram.
-/
module

public import proofs.«01_k».proof.Proof.SetupOnIdeal

@[expose] public section

set_option maxRecDepth 16384

noncomputable section

namespace Cert.Proof.OnIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Tally Cert.Proof.Lanes

variable {F : FTy → Type} [FloatOps F]

local notation "𝕄" => MT nD τ sig (HIx 1) (Elt F) ℕ UU ℕ

local notation "psW" => (Memref.whole Cert.KernelIdeal.main_v2_scv : Memref Cert.KernelIdeal.sig Kind.scVector Space.hbm Cert.KernelIdeal.S2097152 EltTy.f32)
local notation "keyW" => (Memref.whole Cert.KernelIdeal.main_v3_scv : Memref Cert.KernelIdeal.sig Kind.scVector Space.hbm Cert.KernelIdeal.S2097152 EltTy.i32)
local notation "confW" => (Memref.whole Cert.KernelIdeal.main_v4_0_scv : Memref Cert.KernelIdeal.sig Kind.scVector Space.hbm Cert.KernelIdeal.S32x160 EltTy.f32)
local notation "cntW" => (Memref.whole Cert.KernelIdeal.main_v4_1_scv : Memref Cert.KernelIdeal.sig Kind.scVector Space.hbm Cert.KernelIdeal.S32x320 EltTy.f32)
local notation "s0W" => (Memref.whole Cert.KernelIdeal.cc1_scratch0 : Memref Cert.KernelIdeal.sig Kind.scVector Space.vmem Cert.KernelIdeal.S4096 EltTy.f32)
local notation "s1W" => (Memref.whole Cert.KernelIdeal.cc1_scratch1 : Memref Cert.KernelIdeal.sig Kind.scVector Space.vmem Cert.KernelIdeal.S4096 EltTy.i32)
local notation "s2W" => (Memref.whole Cert.KernelIdeal.cc1_scratch2 : Memref Cert.KernelIdeal.sig Kind.scVector Space.vmem Cert.KernelIdeal.S160 EltTy.f32)
local notation "s3W" => (Memref.whole Cert.KernelIdeal.cc1_scratch3 : Memref Cert.KernelIdeal.sig Kind.scVector Space.vmem Cert.KernelIdeal.S320 EltTy.f32)

section Tile

variable (d : Dev nD) (L : grid1.Coords)

abbrev cV (L : grid1.Coords) : Fin τ.nSC := (L 0).castLE hcore1
abbrev jV (L : grid1.Coords) : Fin τ.nSub := (L 1).castLE hsub1
abbrev cL (L : grid1.Coords) : Fin 2 := ⟨(L 0).val, (L 0).isLt⟩
abbrev jL (L : grid1.Coords) : Fin 16 := ⟨(L 1).val, (L 1).isLt⟩
abbrev wL (L : grid1.Coords) : Fin 32 := wid (cL L) (jL L)
/-- The tile's thread. -/
abbrev tV (d : Dev nD) (L : grid1.Coords) : Thread nD τ := V d (cV L) (jV L)
/-- Its first element. -/
abbrev base (L : grid1.Coords) : ℕ := 65536 * (wL L).val

variable (ps : S2097152.Idx → F .f32) (key : S2097152.Idx → BitVec 32)

/-- Sixteen elements of the first scratch, from `16 * j` on. -/
abbrev rJ (j : Fin k1_t2_loop.trips) : Rect S4096 := Rect.unit (s := S4096) (k1_off2 j) S16.size (k1_off2_inb j)

theorem rJ_idx (j : Fin k1_t2_loop.trips) (k : Fin 16) : ((rJ j).toLoadRect.idx (laneIx k) 0).val = 16 * j.val + k.val := by
  rw [LoadRect.idx_apply]
  show k1_off2 j 0 + 1 * (laneIx k 0).val = _
  rw [k1_off2_eq, laneIx_val]
  simp

/-- The first scratch holds elements `n` to `n + 4095` of a line. -/
def Holds {α : Type} (f : Line.Idx → α) (n : ℕ) (g : S4096.Idx → α) : Prop := ∀ x : S4096.Idx, g x = at1 f (n + (x 0).val)

theorem load_s0 {n : ℕ} {f0 : S4096.Idx → F .f32} (h : Holds ps n f0) (j : Fin k1_t2_loop.trips) (k : Fin 16) :
    (s0W).view.readAt (Elt F) (rJ j).toLoadRect f0 (laneIx k) = at1 ps (n + 16 * j.val + k.val) := by
  simp only [View.readAt_apply, Memref.view_whole, View.read_whole]
  rw [h, rJ_idx, Nat.add_assoc]

theorem load_s1 {n : ℕ} {f1 : S4096.Idx → BitVec 32} (h : Holds key n f1) (j : Fin k1_t2_loop.trips) (k : Fin 16) :
    (s1W).view.readAt (Elt F) (rJ j).toLoadRect f1 (laneIx k) = at1 key (n + 16 * j.val + k.val) := by
  simp only [View.readAt_apply, Memref.view_whole, View.read_whole]
  rw [h, rJ_idx, Nat.add_assoc]

/-- The lane numbers. -/
abbrev lanes : IVec S16 32 := iota .scVector S16 32 [0] iota_S16_d0_w32_scVector

theorem lanes_word (k : Fin 16) : lanes (laneIx k) = BitVec.ofNat 32 k.val := by
  show BitVec.ofNat 32 (0 * 16 + (laneIx k 0).val) = _
  rw [laneIx_val, Nat.zero_mul, Nat.zero_add]

theorem pay3_word (v : Vec F S16 .i32) (k : Fin 16) (h : (v (laneIx k) : BitVec 32).toNat < 20) :
    (k1_pay3 (F := F) lanes v (laneIx k)).toNat = 16 * ((v (laneIx k) : BitVec 32).toNat / 2) + k.val := by
  rw [← conf_word (v (laneIx k)) k.val h k.isLt, ← lanes_word]
  rfl

theorem pay4_word (v : Vec F S16 .i32) (k : Fin 16) (h : (v (laneIx k) : BitVec 32).toNat < 20) :
    (k1_pay4 (F := F) lanes v (laneIx k)).toNat = 16 * (v (laneIx k) : BitVec 32).toNat + k.val := by
  rw [← cnt_word (v (laneIx k)) k.val h k.isLt, ← lanes_word]
  rfl

theorem pts_s2 (f : S160.Idx → F .f32) :
    (((s2W).access (.whole S160)).loc (tV d L) ↦[((s2W).access (.whole S160)).set]{fullShare} f : sProp 𝕄)
      = (s2W).view.loc (tV d L) ↦{fullShare} f := by
  rw [show ((s2W).access (.whole S160)).set = Finset.univ from Memref.set_access_whole (cc1_scratch2 : Ref sig .scVector)]

theorem pts_s3 (f : S320.Idx → F .f32) :
    (((s3W).access (.whole S320)).loc (tV d L) ↦[((s3W).access (.whole S320)).set]{fullShare} f : sProp 𝕄)
      = (s3W).view.loc (tV d L) ↦{fullShare} f := by
  rw [show ((s3W).access (.whole S320)).set = Finset.univ from Memref.set_access_whole (cc1_scratch3 : Ref sig .scVector)]

/-- Within one block: the block's elements in the scratches, the tables after the vectors done so far. -/
def inv2 (n : ℕ) (f0 : S4096.Idx → F .f32) (f1 : S4096.Idx → BitVec 32) (j : ℕ) (_ : PUnit) : sProp 𝕄 :=
  iprop(((s0W).view.loc (tV d L) ↦{fullShare} f0) ∗ ((s1W).view.loc (tV d L) ↦{fullShare} f1)
    ∗ ((s2W).view.loc (tV d L) ↦{fullShare} confAt ps key (base L) (n + j))
    ∗ ((s3W).view.loc (tV d L) ↦{fullShare} cntAt (F := F) key (base L) (n + j)))

/-- One vector of sixteen elements. -/
theorem trip2 (hk : ∀ x, (key x).toNat < 20) (n : ℕ) (f0 : S4096.Idx → F .f32) (f1 : S4096.Idx → BitVec 32)
    (h0 : Holds ps (base L + 16 * n) f0) (h1 : Holds key (base L + 16 * n) f1) (v2 : BitVec 32) (v5 : FVec F S16 .f32)
    (j : Fin k1_t2_loop.trips) :
    inv2 d L ps key n f0 f1 j.val ⟨⟩
      ⊢ wp frame (wpE (defs₀ (F := F)) 𝒱₀ (tV d L) none) Set.univ
          (k1_t2_body L psW (Memref.isWhole_whole _) keyW (Memref.isWhole_whole _) confW (Memref.isWhole_whole _) cntW (Memref.isWhole_whole _)
            s0W (Memref.isWhole_whole _) s1W (Memref.isWhole_whole _) s2W (Memref.isWhole_whole _) s3W (Memref.isWhole_whole _)
            cc1_scoped0 cc1_scoped1 cc1_scoped2 cc1_scoped3 v2 lanes k1_pay1 v5 j ⟨⟩)
          fun _ => inv2 d L ps key n f0 f1 (j.val + 1) ⟨⟩ := by
  have hr3 : ∀ k : Fin 16, (k1_pay3 (F := F) lanes ((s1W).view.readAt (Elt F) (rJ j).toLoadRect f1) (laneIx k)).toNat
      = 16 * ((at1 key (base L + 16 * (n + j.val) + k.val)).toNat / 2) + k.val := by
    intro k
    have e := load_s1 (F := F) key h1 j k
    rw [pay3_word _ _ (by rw [e]; exact hk _), e, show base L + 16 * n + 16 * j.val = base L + 16 * (n + j.val) by omega]
  have hr4 : ∀ k : Fin 16, (k1_pay4 (F := F) lanes ((s1W).view.readAt (Elt F) (rJ j).toLoadRect f1) (laneIx k)).toNat
      = 16 * (at1 key (base L + 16 * (n + j.val) + k.val)).toNat + k.val := by
    intro k
    have e := load_s1 (F := F) key h1 j k
    rw [pay4_word _ _ (by rw [e]; exact hk _), e, show base L + 16 * n + 16 * j.val = base L + 16 * (n + j.val) by omega]
  have hv0 : ∀ k : Fin 16, (s0W).view.readAt (Elt F) (rJ j).toLoadRect f0 (laneIx k) = at1 ps (base L + 16 * (n + j.val) + k.val) := by
    intro k
    rw [load_s0 ps h0 j k, show base L + 16 * n + 16 * j.val = base L + 16 * (n + j.val) by omega]
  have hlt : ∀ p : ℕ, (at1 key p).toNat < 20 := fun p => hk _
  have hc1 : k1_chk1 (k1_pay3 (F := F) lanes ((s1W).view.readAt (Elt F) (rJ j).toLoadRect f1)) :=
    in_table (n := 160) _ _ hr3 fun k => by have := hlt (base L + 16 * (n + j.val) + k.val); omega
  have hc2 : k1_chk2 (k1_pay4 (F := F) lanes ((s1W).view.readAt (Elt F) (rJ j).toLoadRect f1)) :=
    in_table (n := 320) _ _ hr4 fun k => by have := hlt (base L + 16 * (n + j.val) + k.val); omega
  have hE2 : ∀ hh, ((s2W).access (.whole S160)).write (Elt F) (confAt ps key (base L) (n + j.val))
      (storeIdx (((s2W).access (.whole S160)).read (Elt F) (confAt ps key (base L) (n + j.val)))
        ![k1_pay3 (F := F) lanes ((s1W).view.readAt (Elt F) (rJ j).toLoadRect f1)] ((s0W).view.readAt (Elt F) (rJ j).toLoadRect f0) (fun _ => 1#1) true hh)
      Finset.univ = confAt ps key (base L) (n + (j.val + 1)) := fun hh =>
    (Memref.write_access_whole_univ (Elt F) (cc1_scratch2 : Ref sig .scVector) _ _).trans <|
      (congrArg (fun g => storeIdx (s := S160) g _ _ _ _ hh) (Memref.read_access_whole (Elt F) (cc1_scratch2 : Ref sig .scVector) _)).trans
      (conf_step ps key (base L) (n + j.val) _ _ _ (fun _ => rfl) hh hv0 hr3)
  have hE3 : ∀ hh, ((s3W).access (.whole S320)).write (Elt F) (cntAt (F := F) key (base L) (n + j.val))
      (storeIdx (((s3W).access (.whole S320)).read (Elt F) (cntAt (F := F) key (base L) (n + j.val)))
        ![k1_pay4 (F := F) lanes ((s1W).view.readAt (Elt F) (rJ j).toLoadRect f1)] (k1_pay1 (F := F)) (fun _ => 1#1) true hh)
      Finset.univ = cntAt (F := F) key (base L) (n + (j.val + 1)) := fun hh =>
    (Memref.write_access_whole_univ (Elt F) (cc1_scratch3 : Ref sig .scVector) _ _).trans <|
      (congrArg (fun g => storeIdx (s := S320) g _ _ _ _ hh) (Memref.read_access_whole (Elt F) (cc1_scratch3 : Ref sig .scVector) _)).trans
      (cnt_step key (base L) (n + j.val) _ _ _ (fun _ => rfl) hh (fun _ => rfl) hr4)
  unfold inv2 k1_t2_body
  iintro ⟨H0, H1, H2, H3⟩
  sl_exec
  unfold trip2.sl.v50 trip2.sl.v53
  ihave H2' := (Entails.of_eq (pts_s2 (F := F) d L _).symm) $$ H2
  iapply (SparseCore.wp_vectorStoreIdx 𝒱₀ (tV d L) none Set.univ (base := s2W)) $$ H2'; iintro H2'
  ihave H2 := (Entails.of_eq ((pts_s2 (F := F) d L _).trans (congrArg (fun f => ((s2W).view.loc (tV d L) ↦{fullShare} f : sProp 𝕄)) (hE2 (k1_idx1_inb _ hc1))))) $$ H2'
  ihave H3' := (Entails.of_eq (pts_s3 (F := F) d L _).symm) $$ H3
  iapply (SparseCore.wp_vectorStoreIdx 𝒱₀ (tV d L) none Set.univ (base := s3W)) $$ H3'; iintro H3'
  ihave H3 := (Entails.of_eq ((pts_s3 (F := F) d L _).trans (congrArg (fun f => ((s3W).view.loc (tV d L) ↦{fullShare} f : sProp 𝕄)) (hE3 (k1_idx2_inb _ hc2))))) $$ H3'
  sl_step
  isplitl [H0]; · iexact H0
  isplitl [H1]; · iexact H1
  isplitl [H2]; · iexact H2
  iexact H3

/-- Between blocks: the shares of the lines, the scratches holding whatever, the tables after the blocks done so far, the
    two semaphores of the fetches at zero. -/
def inv1 (O : CellTallies nD τ sig (HIx 1)) (W : Waits sig (HIx 1)) (t : ℕ) (_ : PUnit) : sProp 𝕄 :=
  iprop(Transfers.MayWaits (tV d L) (none : HIx 1) O
    ∗ ((psW).view.loc (tV d L) ↦{ShareLeaves.leaf 5 fullShare (wL L)} ps) ∗ ((keyW).view.loc (tV d L) ↦{ShareLeaves.leaf 5 fullShare (wL L)} key)
    ∗ (∃ f, (s0W).view.loc (tV d L) ↦{fullShare} f) ∗ (∃ f, (s1W).view.loc (tV d L) ↦{fullShare} f)
    ∗ ((s2W).view.loc (tV d L) ↦{fullShare} confAt ps key (base L) (256 * t))
    ∗ ((s3W).view.loc (tV d L) ↦{fullShare} cntAt (F := F) key (base L) (256 * t))
    ∗ semVal (tV d L, SemLoc.dma cc1_scoped0.sem) 0 ∗ semVal (tV d L, SemLoc.dma cc1_scoped1.sem) 0
    ∗ ∃ W', ⌜∀ p ∈ W', p ∈ W ∨ p.2 = none⌝ ∗ owes (tV d L) O W')

/-- Block `t` of the tile's elements, as a rectangle of a line. -/
abbrev rB (t : Fin k1_t1_loop.trips) : Rect S2097152 := Rect.unit (s := S2097152) (k1_off1 L t) S4096.size (k1_off1_inb L t)

theorem rB_emb (t : Fin k1_t1_loop.trips) (x : S4096.Idx) : ((rB L t).emb x 0).val = base L + 16 * (256 * t.val) + (x 0).val := by
  show k1_off1 L t 0 + 1 * (x 0).val = _
  rw [k1_off1_eq]
  show 131072 * (L 1).val + 65536 * (L 0).val + 4096 * t.val + 1 * (x 0).val = 65536 * (2 * (L 1).val + (L 0).val) + 16 * (256 * t.val) + (x 0).val
  omega

theorem lands_s0 (t : Fin k1_t1_loop.trips) (g0 : S4096.Idx → F .f32) :
    Holds ps (base L + 16 * (256 * t.val)) ((s0W).view.write (Elt F) g0 (((psW).slice (rB L t) fun _ => rfl).view.read (Elt F) ps) Finset.univ) := by
  intro x
  rw [show (s0W).view.write (Elt F) g0 (((psW).slice (rB L t) fun _ => rfl).view.read (Elt F) ps) Finset.univ
    = ((psW).slice (rB L t) fun _ => rfl).view.read (Elt F) ps from View.write_whole_univ _ _ _]
  exact at1_of ps ((rB L t).emb x) _ (rB_emb L t x)

theorem lands_s1 (t : Fin k1_t1_loop.trips) (g1 : S4096.Idx → BitVec 32) :
    Holds key (base L + 16 * (256 * t.val)) ((s1W).view.write (Elt F) g1 (((keyW).slice (rB L t) fun _ => rfl).view.read (Elt F) key) Finset.univ) := by
  intro x
  rw [show (s1W).view.write (Elt F) g1 (((keyW).slice (rB L t) fun _ => rfl).view.read (Elt F) key) Finset.univ
    = ((keyW).slice (rB L t) fun _ => rfl).view.read (Elt F) key from View.write_whole_univ _ _ _]
  exact at1_of key ((rB L t).emb x) _ (rB_emb L t x)

theorem trips2 : Scf.trips k1_t2_loop.lb k1_t2_loop.ub k1_t2_loop.st = 256 := by decide +kernel
theorem trips1 : Scf.trips k1_t1_loop.lb k1_t1_loop.ub k1_t1_loop.st = 16 := by decide +kernel

/-- One block of 4096 elements. -/
theorem trip1 (hk : ∀ x, (key x).toNat < 20) (O : CellTallies nD τ sig (HIx 1)) (W : Waits sig (HIx 1)) (v2 : BitVec 32) (v5 : FVec F S16 .f32)
    (t : Fin k1_t1_loop.trips) :
    inv1 d L ps key O W t.val ⟨⟩
      ⊢ wp frame (wpE (defs₀ (F := F)) 𝒱₀ (tV d L) none) Set.univ
          (k1_t1_body L psW (Memref.isWhole_whole _) keyW (Memref.isWhole_whole _) confW (Memref.isWhole_whole _) cntW (Memref.isWhole_whole _)
            s0W (Memref.isWhole_whole _) s1W (Memref.isWhole_whole _) s2W (Memref.isWhole_whole _) s3W (Memref.isWhole_whole _)
            cc1_scoped0 cc1_scoped1 cc1_scoped2 cc1_scoped3 v2 lanes k1_pay1 v5 t ⟨⟩)
          fun _ => inv1 d L ps key O W (t.val + 1) ⟨⟩ := by
  unfold inv1 k1_t1_body
  iintro ⟨Hmw, Hp, Hk, ⟨%g0, H0⟩, ⟨%g1, H1⟩, H2, H3, Hs0, Hs1, %W', %hW', HO⟩
  sl_exec
  sl_for (inv2 d L ps key (256 * t.val) _ _) $$ [H0 H1 H2 H3]
  case region =>
    intro j _
    exact trip2 d L ps key hk (256 * t.val) _ _ (lands_s0 L ps t g0) (lands_s1 (F := F) L key t g1) v2 v5 j
  · unfold inv2
    isplitl [H0]; · iexact H0
    isplitl [H1]; · iexact H1
    isplitl [H2]; · iexact H2
    iexact H3
  iintro %_ HI
  rw [trips2]
  unfold inv2
  icases HI with ⟨H0, H1, H2, H3⟩
  sl_exec
  sl_step
  rw [show 256 * (t.val + 1) = 256 * t.val + 256 by omega]
  isplitl [Hmw]; · iexact Hmw
  isplitl [Hp]; · iexact Hp
  isplitl [Hk]; · iexact Hk
  isplitl [H0]; · iexists _; iexact H0
  isplitl [H1]; · iexists _; iexact H1
  isplitl [H2]; · iexact H2
  isplitl [H3]; · iexact H3
  isplitl [Hs0]; · iexact Hs0
  isplitl [Hs1]; · iexact Hs1
  iexists _; isplitr
  swap
  · iexact HO
  · ipureintro; intro p hp
    rcases Finset.mem_insert.mp hp with hp | hp
    · exact .inr (hp ▸ rfl)
    rcases Finset.mem_insert.mp hp with hp | hp
    · exact .inr (hp ▸ rfl)
    · exact hW' p hp

/-! ### The tile's rows of the tables -/

abbrev rC (L : grid1.Coords) : Rect S32x160 := Rect.unit (s := S32x160) (k1_off3 L) S1x160.size (k1_off3_inb L)
abbrev rN (L : grid1.Coords) : Rect S32x320 := Rect.unit (s := S32x320) (k1_off4 L) S1x320.size (k1_off4_inb L)
abbrev confK (L : grid1.Coords) : Memref sig .scVector .hbm S160 .f32 :=
  ((Memref.whole main_v4_0_scv : Memref sig .scVector .hbm S32x160 .f32).slice (rC L) (fun _ => rfl)).squeeze S160 squeezes_S1x160_S160
abbrev cntK (L : grid1.Coords) : Memref sig .scVector .hbm S320 .f32 :=
  ((Memref.whole main_v4_1_scv : Memref sig .scVector .hbm S32x320 .f32).slice (rN L) (fun _ => rfl)).squeeze S320 squeezes_S1x320_S320

theorem rC_eq : rC L = Rect.part (s := S32x160) (a₀ := 0) hdivC (wL L) := by
  unfold rC Rect.part Rect.block
  congr 1 <;> funext a
  · rw [k1_off3_eq]
    match a with
    | 0 => simp [Shape.partIx, Shape.partSize, wid]
    | 1 => simp [Shape.partIx, Shape.partSize]
  · match a with
    | 0 => simp [Shape.partSize]
    | 1 => simp [Shape.partSize]

theorem rN_eq : rN L = Rect.part (s := S32x320) (a₀ := 0) hdivN (wL L) := by
  unfold rN Rect.part Rect.block
  congr 1 <;> funext a
  · rw [k1_off4_eq]
    match a with
    | 0 => simp [Shape.partIx, Shape.partSize, wid]
    | 1 => simp [Shape.partIx, Shape.partSize]
  · match a with
    | 0 => simp [Shape.partSize]
    | 1 => simp [Shape.partSize]

theorem set_confK : (confK L).view.set = confRow (wL L) := by
  show (((Memref.whole main_v4_0_scv : Memref sig .scVector .hbm S32x160 .f32).view.slice (rC L)).reshape S160 squeezes_S1x160_S160.numel_eq).set = _
  rw [View.set_reshape]
  show ((View.whole (main_v4_0_scv : Ref sig .scVector)).slice (rC L)).set = _
  rw [View.set_slice, rC_eq]; exact Finset.map_refl

theorem set_cntK : (cntK L).view.set = cntRow (wL L) := by
  show (((Memref.whole main_v4_1_scv : Memref sig .scVector .hbm S32x320 .f32).view.slice (rN L)).reshape S320 squeezes_S1x320_S320.numel_eq).set = _
  rw [View.set_reshape]
  show ((View.whole (main_v4_1_scv : Ref sig .scVector)).slice (rN L)).set = _
  rw [View.set_slice, rN_eq]; exact Finset.map_refl

theorem pts_confK (f : S32x160.Idx → F .f32) :
    ((confK L).view.loc (tV d L) ↦[(confK L).view.set]{fullShare} f : sProp 𝕄) = confLoc d ↦[confRow (wL L)]{fullShare} f := by
  rw [set_confK]
theorem pts_cntK (f : S32x320.Idx → F .f32) :
    ((cntK L).view.loc (tV d L) ↦[(cntK L).view.set]{fullShare} f : sProp 𝕄) = cntLoc d ↦[cntRow (wL L)]{fullShare} f := by
  rw [set_cntK]

theorem confK_emb (y : S160.Idx) : ((confK L).view.emb y 0).val = (wL L).val ∧ ((confK L).view.emb y 1).val = (y 0).val := by
  constructor
  · show k1_off3 L 0 + 1 * (Shape.reshapeEquiv squeezes_S1x160_S160.numel_eq y 0).val = _
    rw [k1_off3_eq]
    have h : (Shape.reshapeEquiv squeezes_S1x160_S160.numel_eq y 0).val < 1 := (Shape.reshapeEquiv squeezes_S1x160_S160.numel_eq y 0).isLt
    show 2 * (L 1).val + (L 0).val + 1 * (Shape.reshapeEquiv squeezes_S1x160_S160.numel_eq y 0).val = 2 * (L 1).val + (L 0).val
    omega
  · show k1_off3 L 1 + 1 * (Shape.reshapeEquiv squeezes_S1x160_S160.numel_eq y 1).val = _
    rw [k1_off3_eq, squeeze_col]
    show 0 + 1 * (y 0).val = _
    omega

theorem cntK_emb (y : S320.Idx) : ((cntK L).view.emb y 0).val = (wL L).val ∧ ((cntK L).view.emb y 1).val = (y 0).val := by
  constructor
  · show k1_off4 L 0 + 1 * (Shape.reshapeEquiv squeezes_S1x320_S320.numel_eq y 0).val = _
    rw [k1_off4_eq]
    have h : (Shape.reshapeEquiv squeezes_S1x320_S320.numel_eq y 0).val < 1 := (Shape.reshapeEquiv squeezes_S1x320_S320.numel_eq y 0).isLt
    show 2 * (L 1).val + (L 0).val + 1 * (Shape.reshapeEquiv squeezes_S1x320_S320.numel_eq y 0).val = 2 * (L 1).val + (L 0).val
    omega
  · show k1_off4 L 1 + 1 * (Shape.reshapeEquiv squeezes_S1x320_S320.numel_eq y 1).val = _
    rw [k1_off4_eq, squeeze_col]
    show 0 + 1 * (y 0).val = _
    omega

/-- The tile's confidence table written over its row is that row of the result. -/
theorem lands_conf (g : S32x160.Idx → F .f32) (w : S160.Idx → F .f32) (hw : w = confAt ps key (base L) 4096) :
    ∀ x ∈ (confK L).view.set, (confK L).view.writes (Elt F) g [⟨Rect.whole S160, w⟩] x = confRes ps key x := by
  intro x hx
  obtain ⟨y, -, rfl⟩ := Finset.mem_map.mp hx
  have e := View.read_writes_apply_of_pieces (Val := Elt F) (confK L).view g w [⟨Rect.whole S160, w⟩]
    (by
      intro p hp x
      obtain rfl := List.mem_singleton.mp hp
      exact (congrArg w (Rect.emb_whole_apply _ x)).symm) y ⟨_, List.mem_cons_self, by rw [Rect.set_whole]; exact Finset.mem_univ y⟩
  rw [View.read_apply] at e
  refine ((cast_eq _ _).symm.trans e).trans ?_
  obtain ⟨h0, h1⟩ := confK_emb L y
  rw [hw]
  unfold confRes
  rw [h0]
  refine congrArg _ (funext fun a => ?_)
  obtain rfl := Fin.eq_zero a
  exact Fin.ext h1.symm

theorem lands_cnt (g : S32x320.Idx → F .f32) (w : S320.Idx → F .f32) (hw : w = cntAt (F := F) key (base L) 4096) :
    ∀ x ∈ (cntK L).view.set, (cntK L).view.writes (Elt F) g [⟨Rect.whole S320, w⟩] x = cntRes (F := F) key x := by
  intro x hx
  obtain ⟨y, -, rfl⟩ := Finset.mem_map.mp hx
  have e := View.read_writes_apply_of_pieces (Val := Elt F) (cntK L).view g w [⟨Rect.whole S320, w⟩]
    (by
      intro p hp x
      obtain rfl := List.mem_singleton.mp hp
      exact (congrArg w (Rect.emb_whole_apply _ x)).symm) y ⟨_, List.mem_cons_self, by rw [Rect.set_whole]; exact Finset.mem_univ y⟩
  rw [View.read_apply] at e
  refine ((cast_eq _ _).symm.trans e).trans ?_
  obtain ⟨h0, h1⟩ := cntK_emb L y
  rw [hw]
  unfold cntRes
  rw [h0]
  refine congrArg _ (funext fun a => ?_)
  obtain rfl := Fin.eq_zero a
  exact Fin.ext h1.symm

end Tile
end Cert.Proof.OnIdeal

end
-- ==== Proof.BodyOnIdeal.lean ====
/-
  The whole of one tile's task, from the zeroing of its tables to the copies that write its rows out, and the launch's
  obligation for the tiles.
-/
module

public import proofs.«01_k».proof.Proof.TileOnIdeal

@[expose] public section

set_option maxRecDepth 16384

noncomputable section

namespace Cert.Proof.OnIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Tally Cert.Proof.Lanes

variable {F : FTy → Type} [FloatOps F]

local notation "𝕄" => MT nD τ sig (HIx 1) (Elt F) ℕ UU ℕ

local notation "psW" => (Memref.whole Cert.KernelIdeal.main_v2_scv : Memref Cert.KernelIdeal.sig Kind.scVector Space.hbm Cert.KernelIdeal.S2097152 EltTy.f32)
local notation "keyW" => (Memref.whole Cert.KernelIdeal.main_v3_scv : Memref Cert.KernelIdeal.sig Kind.scVector Space.hbm Cert.KernelIdeal.S2097152 EltTy.i32)
local notation "confW" => (Memref.whole Cert.KernelIdeal.main_v4_0_scv : Memref Cert.KernelIdeal.sig Kind.scVector Space.hbm Cert.KernelIdeal.S32x160 EltTy.f32)
local notation "cntW" => (Memref.whole Cert.KernelIdeal.main_v4_1_scv : Memref Cert.KernelIdeal.sig Kind.scVector Space.hbm Cert.KernelIdeal.S32x320 EltTy.f32)
local notation "s0W" => (Memref.whole Cert.KernelIdeal.cc1_scratch0 : Memref Cert.KernelIdeal.sig Kind.scVector Space.vmem Cert.KernelIdeal.S4096 EltTy.f32)
local notation "s1W" => (Memref.whole Cert.KernelIdeal.cc1_scratch1 : Memref Cert.KernelIdeal.sig Kind.scVector Space.vmem Cert.KernelIdeal.S4096 EltTy.i32)
local notation "s2W" => (Memref.whole Cert.KernelIdeal.cc1_scratch2 : Memref Cert.KernelIdeal.sig Kind.scVector Space.vmem Cert.KernelIdeal.S160 EltTy.f32)
local notation "s3W" => (Memref.whole Cert.KernelIdeal.cc1_scratch3 : Memref Cert.KernelIdeal.sig Kind.scVector Space.vmem Cert.KernelIdeal.S320 EltTy.f32)

section Tile

variable (d : Dev nD) (L : grid1.Coords)

/-! ### The tile's own semaphores and buffers -/

abbrev cell0 : GSem nD τ sig := (tV d L, SemLoc.dma cc1_scoped0.sem)
abbrev cell1 : GSem nD τ sig := (tV d L, SemLoc.dma cc1_scoped1.sem)
abbrev cell2 : GSem nD τ sig := (tV d L, SemLoc.dma cc1_scoped2.sem)
abbrev cell3 : GSem nD τ sig := (tV d L, SemLoc.dma cc1_scoped3.sem)

omit [FloatOps F] in
/-- The four scoped semaphores are among the subcore's own: they are them, at zero, and the rest. -/
theorem ownSems0_V :
    (ownSems0 (tV d L) : sProp 𝕄)
      = iprop(semVal (cell0 d L) 0 ∗ semVal (cell1 d L) 0 ∗ semVal (cell2 d L) 0 ∗ semVal (cell3 d L) 0
          ∗ bigSep (((((ownCells (tV d L)).erase (cell0 d L)).erase (cell1 d L)).erase (cell2 d L)).erase (cell3 d L)) fun g => semVal g 0) := by
  unfold SparseCore.Cfg.ownSems0
  have m0 : cell0 d L ∈ ownCells (tV d L) := mem_ownCells.mpr ⟨rfl, by show (SemLoc.dma cc1_scoped0.sem : SemLoc sig).isScoped .scVector = true; decide⟩
  have m1 : cell1 d L ∈ ownCells (tV d L) := mem_ownCells.mpr ⟨rfl, by show (SemLoc.dma cc1_scoped1.sem : SemLoc sig).isScoped .scVector = true; decide⟩
  have m2 : cell2 d L ∈ ownCells (tV d L) := mem_ownCells.mpr ⟨rfl, by show (SemLoc.dma cc1_scoped2.sem : SemLoc sig).isScoped .scVector = true; decide⟩
  have m3 : cell3 d L ∈ ownCells (tV d L) := mem_ownCells.mpr ⟨rfl, by show (SemLoc.dma cc1_scoped3.sem : SemLoc sig).isScoped .scVector = true; decide⟩
  have n10 : cell1 d L ≠ cell0 d L := by simp [cell0, cell1]; decide
  have n20 : cell2 d L ≠ cell0 d L := by simp [cell0, cell2]; decide
  have n21 : cell2 d L ≠ cell1 d L := by simp [cell1, cell2]; decide
  have n30 : cell3 d L ≠ cell0 d L := by simp [cell0, cell3]; decide
  have n31 : cell3 d L ≠ cell1 d L := by simp [cell1, cell3]; decide
  have n32 : cell3 d L ≠ cell2 d L := by simp [cell2, cell3]; decide
  rw [SparseCore.bigSep_erase' m0, SparseCore.bigSep_erase' (Finset.mem_erase.mpr ⟨n10, m1⟩),
    SparseCore.bigSep_erase' (Finset.mem_erase.mpr ⟨n21, Finset.mem_erase.mpr ⟨n20, m2⟩⟩),
    SparseCore.bigSep_erase' (Finset.mem_erase.mpr ⟨n32, Finset.mem_erase.mpr ⟨n31, Finset.mem_erase.mpr ⟨n30, m3⟩⟩⟩)]

abbrev own0 : DevRef τ sig := (Proc.scVector (cV L) (jV L)).devRef cc1_scratch0
abbrev own1 : DevRef τ sig := (Proc.scVector (cV L) (jV L)).devRef cc1_scratch1
abbrev own2 : DevRef τ sig := (Proc.scVector (cV L) (jV L)).devRef cc1_scratch2
abbrev own3 : DevRef τ sig := (Proc.scVector (cV L) (jV L)).devRef cc1_scratch3

omit [FloatOps F] in
/-- The four scratches are among the subcore's own buffers: they are them, at some contents, and the rest. -/
theorem ownBufs_V :
    (ownBufs (tV d L) : sProp 𝕄)
      = iprop((∃ f, (tV d L).loc cc1_scratch0 ↦{fullShare} f) ∗ (∃ f, (tV d L).loc cc1_scratch1 ↦{fullShare} f)
          ∗ (∃ f, (tV d L).loc cc1_scratch2 ↦{fullShare} f) ∗ (∃ f, (tV d L).loc cc1_scratch3 ↦{fullShare} f)
          ∗ bigSep (((((ownRefs (τ := τ) (.scVector (cV L) (jV L))).erase (own0 L)).erase (own1 L)).erase (own2 L)).erase (own3 L))
              fun b => iprop(∃ f, ((d, b) : Loc nD τ sig) ↦{fullShare} f)) := by
  unfold SparseCore.Cfg.ownBufs
  have m0 := SparseCore.Cfg.mem_ownRefs_of_owner (p := Proc.scVector (cV L) (jV L)) (b := own0 L) rfl
  have m1 := SparseCore.Cfg.mem_ownRefs_of_owner (p := Proc.scVector (cV L) (jV L)) (b := own1 L) rfl
  have m2 := SparseCore.Cfg.mem_ownRefs_of_owner (p := Proc.scVector (cV L) (jV L)) (b := own2 L) rfl
  have m3 := SparseCore.Cfg.mem_ownRefs_of_owner (p := Proc.scVector (cV L) (jV L)) (b := own3 L) rfl
  have n10 : own1 L ≠ own0 L := fun e => absurd (Proc.devRef_injective _ e) (show (cc1_scratch1 : Ref sig .scVector) ≠ cc1_scratch0 by decide)
  have n20 : own2 L ≠ own0 L := fun e => absurd (Proc.devRef_injective _ e) (show (cc1_scratch2 : Ref sig .scVector) ≠ cc1_scratch0 by decide)
  have n21 : own2 L ≠ own1 L := fun e => absurd (Proc.devRef_injective _ e) (show (cc1_scratch2 : Ref sig .scVector) ≠ cc1_scratch1 by decide)
  have n30 : own3 L ≠ own0 L := fun e => absurd (Proc.devRef_injective _ e) (show (cc1_scratch3 : Ref sig .scVector) ≠ cc1_scratch0 by decide)
  have n31 : own3 L ≠ own1 L := fun e => absurd (Proc.devRef_injective _ e) (show (cc1_scratch3 : Ref sig .scVector) ≠ cc1_scratch1 by decide)
  have n32 : own3 L ≠ own2 L := fun e => absurd (Proc.devRef_injective _ e) (show (cc1_scratch3 : Ref sig .scVector) ≠ cc1_scratch2 by decide)
  refine (SparseCore.bigSep_erase' m0).trans ?_
  rw [SparseCore.bigSep_erase' (Finset.mem_erase.mpr ⟨n10, m1⟩),
    SparseCore.bigSep_erase' (Finset.mem_erase.mpr ⟨n21, Finset.mem_erase.mpr ⟨n20, m2⟩⟩),
    SparseCore.bigSep_erase' (Finset.mem_erase.mpr ⟨n32, Finset.mem_erase.mpr ⟨n31, Finset.mem_erase.mpr ⟨n30, m3⟩⟩⟩)]

/-- An element in one of a list of pieces of sixteen: in the first, or else in one of the others. -/
theorem exists_cons_unit {n : ℕ} {e : EltTy} {o : ℕ} {inb} {w} {l : List (View.Piece (Elt F) ⟨1, ![n]⟩ e)} {y : (⟨1, ![n]⟩ : Shape).Idx}
    (h : ¬ (o ≤ (y 0).val ∧ (y 0).val < o + 16) → ∃ p ∈ l, y ∈ p.1.set) :
    ∃ p ∈ (⟨Rect.unit (s := ⟨1, ![n]⟩) ![o] S16.size inb, w⟩ :: l : List (View.Piece (Elt F) ⟨1, ![n]⟩ e)), y ∈ p.1.set := by
  by_cases hc : o ≤ (y 0).val ∧ (y 0).val < o + 16
  · refine ⟨_, List.mem_cons_self, (Rect.mem_set_unit (inb := inb)).mpr fun a => ?_⟩
    obtain rfl := Fin.eq_zero a
    exact hc
  · obtain ⟨p, hp, hy⟩ := h hc
    exact ⟨p, List.mem_cons_of_mem _ hp, hy⟩

/-- A table into which zeros were stored all over is the table before the first element. -/
theorem fill_conf (ps : S2097152.Idx → F .f32) (key : S2097152.Idx → BitVec 32) (f : S160.Idx → F .f32) (l : List (View.Piece (Elt F) S160 .f32))
    (h0 : ∀ p ∈ l, ∀ x : p.1.shape.Idx, p.2 x = Scalar.ofBits .f32 0x00000000#32) (hl : ∀ y : S160.Idx, ∃ p ∈ l, y ∈ p.1.set) :
    ((s2W).view.loc (tV d L) ↦{fullShare} (s2W).view.writes (Elt F) f l : sProp 𝕄)
      = ((s2W).view.loc (tV d L) ↦{fullShare} confAt ps key (base L) (256 * 0)) :=
  congrArg (fun g => ((s2W).view.loc (tV d L) ↦{fullShare} g : sProp 𝕄)) <| funext fun y =>
    (congrFun (View.read_whole (Val := Elt F) (cc1_scratch2 : Ref sig .scVector) _).symm y).trans
      (View.read_writes_apply_of_pieces (s2W).view f (fun _ => Scalar.ofBits .f32 0x00000000#32) l h0 y (hl y))

theorem fill_cnt (key : S2097152.Idx → BitVec 32) (f : S320.Idx → F .f32) (l : List (View.Piece (Elt F) S320 .f32))
    (h0 : ∀ p ∈ l, ∀ x : p.1.shape.Idx, p.2 x = Scalar.ofBits .f32 0x00000000#32) (hl : ∀ y : S320.Idx, ∃ p ∈ l, y ∈ p.1.set) :
    ((s3W).view.loc (tV d L) ↦{fullShare} (s3W).view.writes (Elt F) f l : sProp 𝕄)
      = ((s3W).view.loc (tV d L) ↦{fullShare} cntAt (F := F) key (base L) (256 * 0)) :=
  congrArg (fun g => ((s3W).view.loc (tV d L) ↦{fullShare} g : sProp 𝕄)) <| funext fun y =>
    (congrFun (View.read_whole (Val := Elt F) (cc1_scratch3 : Ref sig .scVector) _).symm y).trans
      (View.read_writes_apply_of_pieces (s3W).view f (fun _ => Scalar.ofBits .f32 0x00000000#32) l h0 y (hl y))

variable (ps : Dev nD → S2097152.Idx → F .f32) (key : Dev nD → S2097152.Idx → BitVec 32)

/-- A tile's task: it leaves its rows of the tables at the tile's histogram and everything else as it found it. -/
theorem tile_body (hF : (K (F := F)).Facts) (hk : ∀ x, (key d x).toNat < 20) (O : CellTallies nD τ sig (HIx 1)) (W : Waits sig (HIx 1)) (hO : ∀ g, O g none = 0) :
    iprop(levAts (K (F := F)).L (K (F := F)).lev ∗ emp ∗ tileIn ps key d (wL L) ∗ scopedBufs (tV d L) ∗ scopedSems0 (tV d L) ∗ owes (tV d L) O W)
      ⊢ wp frame (wpE (defs₀ (F := F)) 𝒱₀ (tV d L) none) Set.univ
          (cc1__hist_body L psW (Memref.isWhole_whole _) keyW (Memref.isWhole_whole _) confW (Memref.isWhole_whole _) cntW (Memref.isWhole_whole _)
            s0W (Memref.isWhole_whole _) s1W (Memref.isWhole_whole _) s2W (Memref.isWhole_whole _) s3W (Memref.isWhole_whole _)
            cc1_scoped0 cc1_scoped1 cc1_scoped2 cc1_scoped3)
          fun _ => iprop(tileOut ps key d (wL L) ∗ scopedBufs (tV d L) ∗ scopedSems0 (tV d L)
            ∗ ∃ W', ⌜∀ p ∈ W', p ∈ W ∨ p.2 = none⌝ ∗ owes (tV d L) O W') := by
  simp only [cc1__hist_body_eq_skeleton]; unfold cc1__hist_body_skel
  simp only [k1_part1_eq_skeleton, k1_part2_eq_skeleton]; unfold k1_part1_skel k1_part2_skel
  simp only [bind_assoc]
  rw [(K (F := F)).scopedBufs_V hF d (cV L) (jV L), SparseCore.Cfg.scopedSems0_V (Val := Elt F) d (cV L) (jV L), ownSems0_V, ownBufs_V]
  iintro ⟨#Hlv, -, ⟨⟨Hp, Hk⟩, ⟨%fc, Hc⟩, ⟨%fn, Hn⟩⟩, ⟨⟨%f0, H0⟩, ⟨%f1, H1⟩, ⟨%f2, H2⟩, ⟨%f3, H3⟩, Hbufs⟩, ⟨Hs0, Hs1, Hs2, Hs3, Hsems⟩, HO⟩
  ihave Hmw := ((K (F := F)).mayWaits_none (thr := tV d L) hO) $$ Hlv
  ihave Hp := (Entails.of_eq (show (psLoc d ↦{ShareLeaves.leaf 5 fullShare (wL L)} ps d : sProp 𝕄) = ((psW).view.loc (tV d L) ↦{ShareLeaves.leaf 5 fullShare (wL L)} ps d) from rfl)) $$ Hp
  ihave Hk := (Entails.of_eq (show (keyLoc d ↦{ShareLeaves.leaf 5 fullShare (wL L)} key d : sProp 𝕄) = ((keyW).view.loc (tV d L) ↦{ShareLeaves.leaf 5 fullShare (wL L)} key d) from rfl)) $$ Hk
  ihave H0 := (Entails.of_eq (show ((tV d L).loc cc1_scratch0 ↦{fullShare} f0 : sProp 𝕄) = ((s0W).view.loc (tV d L) ↦{fullShare} f0) from rfl)) $$ H0
  ihave H1 := (Entails.of_eq (show ((tV d L).loc cc1_scratch1 ↦{fullShare} f1 : sProp 𝕄) = ((s1W).view.loc (tV d L) ↦{fullShare} f1) from rfl)) $$ H1
  ihave H2 := (Entails.of_eq (show ((tV d L).loc cc1_scratch2 ↦{fullShare} f2 : sProp 𝕄) = ((s2W).view.loc (tV d L) ↦{fullShare} f2) from rfl)) $$ H2
  ihave H3 := (Entails.of_eq (show ((tV d L).loc cc1_scratch3 ↦{fullShare} f3 : sProp 𝕄) = ((s3W).view.loc (tV d L) ↦{fullShare} f3) from rfl)) $$ H3
  ihave Hc := (Entails.of_eq (pts_confK (F := F) d L fc).symm) $$ Hc
  ihave Hn := (Entails.of_eq (pts_cntK (F := F) d L fn).symm) $$ Hn
  sl_exec
  ihave H2 := (Entails.of_eq (fill_conf (F := F) d L (ps d) (key d) _ _ ?hz2 ?hc2)) $$ H2
  case hz2 =>
    unfold tile_body.sl.H2_10
    repeat (refine List.forall_mem_cons.mpr ⟨fun _ => rfl, ?_⟩)
    exact fun _ h => absurd h List.not_mem_nil
  case hc2 =>
    unfold tile_body.sl.H2_10
    intro y
    have h : (y 0).val < 160 := (y 0).isLt
    repeat (refine exists_cons_unit fun _ => ?_)
    exfalso; omega
  ihave H3 := (Entails.of_eq (fill_cnt (F := F) d L (key d) _ _ ?hz3 ?hc3)) $$ H3
  case hz3 =>
    unfold tile_body.sl.H3_20
    repeat (refine List.forall_mem_cons.mpr ⟨fun _ => rfl, ?_⟩)
    exact fun _ h => absurd h List.not_mem_nil
  case hc3 =>
    unfold tile_body.sl.H3_20
    intro y
    have h : (y 0).val < 320 := (y 0).isLt
    repeat (refine exists_cons_unit fun _ => ?_)
    exfalso; omega
  sl_for (inv1 d L (ps d) (key d) O W) $$ [Hmw Hp Hk H0 H1 H2 H3 Hs0 Hs1 HO]
  case region =>
    intro t _
    exact trip1 d L (ps d) (key d) hk O W _ _ t
  · unfold inv1
    isplitl [Hmw]; · iexact Hmw
    isplitl [Hp]; · iexact Hp
    isplitl [Hk]; · iexact Hk
    isplitl [H0]; · iexists _; iexact H0
    isplitl [H1]; · iexists _; iexact H1
    isplitl [H2]; · iexact H2
    isplitl [H3]; · iexact H3
    isplitl [Hs0]; · iexact Hs0
    isplitl [Hs1]; · iexact Hs1
    iexists W; isplitr
    · ipureintro; exact fun p hp => .inl hp
    iexact HO
  iintro %_ HI
  rw [trips1]
  unfold inv1
  icases HI with ⟨Hmw, Hp, Hk, ⟨%g0, H0⟩, ⟨%g1, H1⟩, H2, H3, Hs0, Hs1, %W', %hW', HO⟩
  sl_exec
  sl_step
  unfold tileOut
  isplitl [Hp Hk Hc Hn]
  · isplitl [Hp Hk]
    · isplitl [Hp]; · iexact Hp
      iexact Hk
    isplitl [Hc]
    · iapply (Entails.of_eq ((pointsTo_congr (lands_conf (F := F) L (ps d) (key d) fc _ rfl)).trans (pts_confK (F := F) d L _)))
      iexact Hc
    · iapply (Entails.of_eq ((pointsTo_congr (lands_cnt (F := F) L (key d) fn _ rfl)).trans (pts_cntK (F := F) d L _)))
      iexact Hn
  isplitl [H0 H1 H2 H3 Hbufs]
  · isplitl [H0]; · iexists _; iexact H0
    isplitl [H1]; · iexists _; iexact H1
    isplitl [H2]; · iexists _; iexact H2
    isplitl [H3]; · iexists _; iexact H3
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexists _; isplitr
  swap
  · iexact HO
  · ipureintro; intro p hp
    rcases Finset.mem_insert.mp hp with hp | hp
    · exact .inr (hp ▸ rfl)
    rcases Finset.mem_insert.mp hp with hp | hp
    · exact .inr (hp ▸ rfl)
    · exact hW' p hp

end Tile

/-! ## The tiles' part of the launch -/

/-- The grid coordinates of subcore `s` of SparseCore `c`. -/
def coordsV (c : Fin (grid1.bound 0)) (s : Fin (grid1.bound 1)) : grid1.Coords := fun | 0 => c | 1 => s | ⟨_ + 2, h⟩ => absurd h (Nat.not_lt.2 (Nat.le_add_left _ _))

theorem defs₀_vector (c : Fin τ.nSC) (s : Fin τ.nSub) :
    (defs₀ (F := F) (.scVector c s) 1 ())
      = SparseCore.onTile hcore1 hsub1 (fun c s => cc1__hist_body (coordsV c s) psW (Memref.isWhole_whole _) keyW (Memref.isWhole_whole _) confW (Memref.isWhole_whole _)
          cntW (Memref.isWhole_whole _) s0W (Memref.isWhole_whole _) s1W (Memref.isWhole_whole _) s2W (Memref.isWhole_whole _) s3W (Memref.isWhole_whole _)
          cc1_scoped0 cc1_scoped1 cc1_scoped2 cc1_scoped3) ⟨⟩ c s := rfl

omit [FloatOps F] in
/-- A tile waits at index `none` alone: within what the launch allows it. -/
theorem obl_post {thr : Thread nD τ} {O : CellTallies nD τ sig (HIx 1)} {W : Waits sig (HIx 1)} {A B C : sProp 𝕄} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 8192 in
/-- What the launch asks of a tile. -/
theorem tileObl (ps : Dev nD → S2097152.Idx → F .f32) (key : Dev nD → S2097152.Idx → BitVec 32) (hk : ∀ d x, (key d x).toNat < 20) :
    (K (F := F)).TileObl (D (F := F)) 𝒱 (P ps key) v₀ 0 := by
  intro d c i O W hO _ _
  simp only [show (P ps key).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]
  simp only [SparseCore.onTile, hc, and_self, ↓reduceDIte]
  exact (tile_body (F := F) d (coordsV ⟨_, hc.1⟩ ⟨_, hc.2⟩) ps key facts (hk d) O W hO).trans (wp_mono frame _ _ fun _ => obl_post)

end Cert.Proof.OnIdeal

end
-- ==== Proof.MainOnIdeal.lean ====
/-
  The whole run: the TensorCore's program from the launch contents to the last stage, the SparseCore call given out to its
  thirty-two tiles and taken back, and the launch of every thread. It ends with the arguments as they were and the result
  at the last stage's.
-/
module

public import proofs.«01_k».proof.Defs
public import proofs.«01_k».proof.Proof.StatesOnIdeal
public import proofs.«01_k».proof.Proof.ImageOnIdeal
public import proofs.«01_k».proof.Proof.BodyOnIdeal

@[expose] public section

set_option maxRecDepth 16384

noncomputable section

namespace Cert.Proof.OnIdeal

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ucRefs unscopedBufs_held sub_ucRefs cellsGhost toksInit)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The lines -/

theorem keyL_apply (d : Dev nD) (x : S2097152.Idx) :
    keyL m d x = keyArr (Vw (W1 m)) b0 (O0 (F := F)) d (Shape.reshapeEquiv shapeCasts_S8x512x512_S2097152 x) := by
  unfold keyL W3
  rw [StableHlo.after_cons, StableHlo.after_cons, StableHlo.after_nil, StableHlo.reshape_result', StableHlo.reshape_result_ne (h := by decide), W2_v1_1]
  rfl

theorem psL_apply (d : Dev nD) (x : S2097152.Idx) :
    psL m d x = psArr (Vw (W1 m)) b0 (O0 (F := F)) d (Shape.reshapeEquiv shapeCasts_S8x512x512_S2097152 x) := by
  unfold psL W3
  rw [StableHlo.after_cons, StableHlo.after_cons, StableHlo.after_nil, StableHlo.reshape_result_ne (h := by decide), StableHlo.reshape_result', W2_v1_0]
  rfl

/-- Every key is one of the table's twenty lines. -/
theorem keyL_lt (d : Dev nD) (x : S2097152.Idx) : (keyL m d x).toNat < 20 := by
  rw [keyL_apply, keyArr_eq]
  exact keyAt_lt ..

/-! ## The call's arrays, out of the TensorCore's and back -/

/-- The four arrays of the call. -/
abbrev callRefs : Finset (DevRef τ sig) := {(main_v2 : DevRef τ sig), (main_v3 : DevRef τ sig), (main_v4_0 : DevRef τ sig), (main_v4_1 : DevRef τ sig)}

theorem callRefs_sub : callRefs ⊆ ucRefs τ sig := by
  intro b hb
  simp only [callRefs, Finset.mem_insert, Finset.mem_singleton] at hb
  rcases hb with rfl | rfl | rfl | rfl <;> exact Finset.mem_filter.mpr ⟨StableHlo.devRef_mem_tcRefs _, by decide⟩

theorem held_call (d : Dev nD) (W : Valuation τ sig (Elt F)) :
    (StableHlo.held (d.tc : Thread nD τ) callRefs W : sProp 𝕄)
      = iprop((psLoc d ↦{fullShare} W main_v2) ∗ (keyLoc d ↦{fullShare} W main_v3) ∗ (confLoc d ↦{fullShare} W main_v4_0) ∗ cntLoc d ↦{fullShare} W main_v4_1) := by
  unfold StableHlo.held callRefs
  rw [bigSep_insert (by simp only [Finset.mem_insert, Finset.mem_singleton, not_or]
                        exact ⟨StableHlo.devRef_ne_of_ne (by decide), StableHlo.devRef_ne_of_ne (by decide), StableHlo.devRef_ne_of_ne (by decide)⟩),
    bigSep_insert (by simp only [Finset.mem_insert, Finset.mem_singleton, not_or]
                      exact ⟨StableHlo.devRef_ne_of_ne (by decide), StableHlo.devRef_ne_of_ne (by decide)⟩),
    bigSep_insert (by simp only [Finset.mem_singleton]; exact StableHlo.devRef_ne_of_ne (by decide)),
    bigSep_singleton]
  rfl

/-- The tiles in the order of their numbers, by SparseCore and subcore. -/
def tiles : Fin 2 × Fin 16 ≃ Fin 32 where
  toFun p := wid p.1 p.2
  invFun w := (⟨w.val % 2, Nat.mod_lt _ (by decide)⟩, ⟨w.val / 2, by have := w.isLt; omega⟩)
  left_inv p := by
    have h1 := p.1.isLt
    have h2 := p.2.isLt
    refine Prod.ext (Fin.ext ?_) (Fin.ext ?_)
    · show (2 * p.2.val + p.1.val) % 2 = p.1.val; omega
    · show (2 * p.2.val + p.1.val) / 2 = p.2.val; omega
  right_inv w := by
    apply Fin.ext
    show 2 * (w.val / 2) + w.val % 2 = w.val
    omega

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem bigSep_tiles (Φ : Fin 32 → sProp 𝕄) :
    (bigSep Finset.univ fun c : Fin 2 => bigSep Finset.univ fun i : Fin 16 => Φ (wid c i)) = bigSep Finset.univ Φ := by
  rw [bigSep_univ_equiv tiles Φ, bigSep_univ_prod]
  rfl

theorem conf_rows (d : Dev nD) (f : Buf (Elt F) (confLoc d)) :
    (confLoc d ↦{fullShare} f : sProp 𝕄) = bigSep Finset.univ fun w : Fin 32 => confLoc d ↦[confRow w]{fullShare} f := by
  rw [← pointsTo_biUnion Finset.univ (ℓ := confLoc d) confRow (fun i _ j _ h => Rect.part_disjoint hdivC h)]
  unfold confRow
  rw [Rect.biUnion_part hdivC]
theorem cnt_rows (d : Dev nD) (f : Buf (Elt F) (cntLoc d)) :
    (cntLoc d ↦{fullShare} f : sProp 𝕄) = bigSep Finset.univ fun w : Fin 32 => cntLoc d ↦[cntRow w]{fullShare} f := by
  rw [← pointsTo_biUnion Finset.univ (ℓ := cntLoc d) cntRow (fun i _ j _ h => Rect.part_disjoint hdivN h)]
  unfold cntRow
  rw [Rect.biUnion_part hdivN]

/-- A whole array is its thirty-two read shares. -/
theorem leaves {ℓ : Loc nD τ sig} (f : Buf (Elt F) ℓ) :
    ((ℓ ↦{fullShare} f : sProp 𝕄) ⊢ bigSep Finset.univ fun w : Fin 32 => ℓ ↦{ShareLeaves.leaf 5 fullShare w} f)
      ∧ ((bigSep Finset.univ fun w : Fin 32 => ℓ ↦{ShareLeaves.leaf 5 fullShare w} f) ⊢ (ℓ ↦{fullShare} f : sProp 𝕄)) :=
  ⟨Entails.of_eq (ShareLeaves.pointsTo_leaves Finset.univ f 5 fullShare), Entails.of_eq (ShareLeaves.pointsTo_leaves Finset.univ f 5 fullShare).symm⟩
theorem ps_leaves (ps : Dev nD → S2097152.Idx → F .f32) (d : Dev nD) :
    ((psLoc d ↦{fullShare} ps d : sProp 𝕄) ⊢ bigSep Finset.univ fun w : Fin 32 => psLoc d ↦{ShareLeaves.leaf 5 fullShare w} ps d)
      ∧ ((bigSep Finset.univ fun w : Fin 32 => psLoc d ↦{ShareLeaves.leaf 5 fullShare w} ps d) ⊢ (psLoc d ↦{fullShare} ps d : sProp 𝕄)) :=
  leaves (ℓ := psLoc d) (ps d)
theorem key_leaves (key : Dev nD → S2097152.Idx → BitVec 32) (d : Dev nD) :
    ((keyLoc d ↦{fullShare} key d : sProp 𝕄) ⊢ bigSep Finset.univ fun w : Fin 32 => keyLoc d ↦{ShareLeaves.leaf 5 fullShare w} key d)
      ∧ ((bigSep Finset.univ fun w : Fin 32 => keyLoc d ↦{ShareLeaves.leaf 5 fullShare w} key d) ⊢ (keyLoc d ↦{fullShare} key d : sProp 𝕄)) :=
  leaves (ℓ := keyLoc d) (key d)

/-- The four arrays whole are the tiles' shares, going in. -/
theorem give_out (ps : Dev nD → S2097152.Idx → F .f32) (key : Dev nD → S2097152.Idx → BitVec 32) (d : Dev nD) (f : Buf (Elt F) (confLoc d)) (g : Buf (Elt F) (cntLoc d)) :
    iprop((psLoc d ↦{fullShare} ps d) ∗ (keyLoc d ↦{fullShare} key d) ∗ (confLoc d ↦{fullShare} f) ∗ cntLoc d ↦{fullShare} g)
      ⊢ (bigSep Finset.univ fun c : Fin ((K (F := F)).nCore 0) => (P ps key).st 0 d c : sProp 𝕄) := by
  show _ ⊢ bigSep Finset.univ fun c : Fin ((K (F := F)).nCore 0) => coreIn ps key d (Fin.cast nCore_zero c)
  rw [bigSep_cores (F := F) (fun c => coreIn ps key d c), bigSep_tiles (F := F) (fun w => tileIn ps key d w),
    bigSep_sep', bigSep_sep', bigSep_sep', conf_rows, cnt_rows]
  iintro ⟨H1, H2, H3, H4⟩
  isplitl [H1 H2]
  · isplitl [H1]
    · iapply (ps_leaves ps d).1; iexact H1
    · iapply (key_leaves (F := F) key d).1; iexact H2
  have e3 : (bigSep Finset.univ fun w : Fin 32 => confLoc d ↦[confRow w]{fullShare} f : sProp 𝕄)
      ⊢ bigSep Finset.univ fun w : Fin 32 => iprop(∃ f, confLoc d ↦[confRow w]{fullShare} f) :=
    bigSep_mono fun w _ => exists_intro (Φ := fun f => iprop(confLoc d ↦[confRow w]{fullShare} f)) f
  have e4 : (bigSep Finset.univ fun w : Fin 32 => cntLoc d ↦[cntRow w]{fullShare} g : sProp 𝕄)
      ⊢ bigSep Finset.univ fun w : Fin 32 => iprop(∃ f, cntLoc d ↦[cntRow w]{fullShare} f) :=
    bigSep_mono fun w _ => exists_intro (Φ := fun f => iprop(cntLoc d ↦[cntRow w]{fullShare} f)) g
  isplitl [H3]
  · iapply e3; iexact H3
  · iapply e4; iexact H4

/-- The tiles' shares, coming back, are the four arrays whole, the tables done. -/
theorem take_back (ps : Dev nD → S2097152.Idx → F .f32) (key : Dev nD → S2097152.Idx → BitVec 32) (d : Dev nD) :
    (bigSep Finset.univ fun c : Fin ((K (F := F)).nCore 0) => (P ps key).dn 0 d c : sProp 𝕄)
      ⊢ iprop((psLoc d ↦{fullShare} ps d) ∗ (keyLoc d ↦{fullShare} key d) ∗ (confLoc d ↦{fullShare} confRes (ps d) (key d)) ∗ cntLoc d ↦{fullShare} cntRes (F := F) (key d)) := by
  show (bigSep Finset.univ fun c : Fin ((K (F := F)).nCore 0) => coreOut ps key d (Fin.cast nCore_zero c)) ⊢ _
  rw [bigSep_cores (F := F) (fun c => coreOut ps key d c), bigSep_tiles (F := F) (fun w => tileOut ps key d w),
    bigSep_sep', bigSep_sep', bigSep_sep', conf_rows, cnt_rows]
  iintro ⟨⟨H1, H2⟩, H3, H4⟩
  isplitl [H1]; · iapply (ps_leaves ps d).2; iexact H1
  isplitl [H2]; · iapply (key_leaves (F := F) key d).2; iexact H2
  isplitl [H3]; · iexact H3
  iexact H4

theorem call_split (d : Dev nD) : (StableHlo.held (d.tc : Thread nD τ) (ucRefs τ sig) (StableHlo.after opsB (W2 m d)) : sProp 𝕄)
    ⊢ iprop(((psLoc d ↦{fullShare} psL m d) ∗ (keyLoc d ↦{fullShare} keyL m d) ∗ (confLoc d ↦{fullShare} W3 m d main_v4_0) ∗ cntLoc d ↦{fullShare} W3 m d main_v4_1)
        ∗ StableHlo.held (d.tc : Thread nD τ) (ucRefs τ sig \ callRefs) (W3 m d)) :=
  Entails.of_eq ((StableHlo.held_sub_split _ callRefs_sub (W3 m d)).trans (congrArg (fun X : sProp 𝕄 => iprop(X ∗ StableHlo.held (d.tc : Thread nD τ) (ucRefs τ sig \ callRefs) (W3 m d))) (held_call d (W3 m d))))

theorem held_W4 (d : Dev nD) : (StableHlo.held (d.tc : Thread nD τ) (ucRefs τ sig) (W4 m d) : sProp 𝕄)
    = iprop(((psLoc d ↦{fullShare} psL m d) ∗ (keyLoc d ↦{fullShare} keyL m d) ∗ (confLoc d ↦{fullShare} confRes (psL m d) (keyL m d)) ∗ cntLoc d ↦{fullShare} cntRes (F := F) (keyL m d))
        ∗ StableHlo.held (d.tc : Thread nD τ) (ucRefs τ sig \ callRefs) (W3 m d)) := by
  rw [StableHlo.held_sub_split _ callRefs_sub, held_call, W4_v4_0, W4_v4_1,
    W4_ne m d main_v2 (StableHlo.devRef_ne_of_ne (by decide)) (StableHlo.devRef_ne_of_ne (by decide)),
    W4_ne m d main_v3 (StableHlo.devRef_ne_of_ne (by decide)) (StableHlo.devRef_ne_of_ne (by decide)),
    StableHlo.held_congr (V := W4 m d) (V' := W3 m d) _ (fun b hb => W4_ne m d b
      (fun e => (Finset.mem_sdiff.mp hb).2 (by rw [e]; simp only [callRefs, Finset.mem_insert, true_or, or_true]))
      (fun e => (Finset.mem_sdiff.mp hb).2 (by rw [e]; simp only [callRefs, Finset.mem_insert, Finset.mem_singleton, or_true])))]
  rfl

/-! ## The pipelines' passages in the program -/

/-- What the launch gives a pipeline. -/
abbrev ghosts (d : Dev nD) (p : Fin 2) : sProp 𝕄 := iprop(cellsGhost (Pipeline.pin (pcfgs (F := F)) adm) EP p d ∗ toksInit (Pipeline.pin (pcfgs (F := F)) adm) EP p d)

theorem pin_inj : Function.Injective (cellOf (nD := nD) (τ := τ) (Pipeline.pin (pcfgs (F := F)) adm)) := cellOf_inj

theorem pass (p : Fin 2) (dats : Dats (F := F)) (R : Pipeline.RegionSeg (pcfgs (F := F)) adm dats none defs₀ 𝒱₀ (K (F := F)).L (K (F := F)).lev p) (d : Dev nD)
    (Q : PUnit → sProp 𝕄) :
    iprop((iprop(boundary (d.tc : Thread nD τ) ∗ R.post d) -∗ Q ⟨⟩) ∗ boundary (d.tc : Thread nD τ) ∗ R.pre d ∗ levAts (K (F := F)).L (K (F := F)).lev ∗ ghosts (F := F) d p)
      ⊢ wp frame (wpE ((K (F := F)).defs (D (F := F))) 𝒱 (SparseCore.T d) none) Set.univ
          (SparseCore.liftProg (Q := 1) (.op (.customCall (Pipeline.entry p) ()) .ret : Prog (TpuEff nD τ sig (Elt F) (ΛP (F := F)) .tc) PUnit)) Q := by
  refine .trans ?_ ((K (F := F)).wp_liftProg (D (F := F)) 𝒱 (SparseCore.T d) Set.univ none _ Q)
  refine .trans ?_ (Pipeline.RegionSeg.wp (pcfgs (F := F)) adm dats none pin_inj EP defs₀ 𝒱₀ (K (F := F)).L (K (F := F)).lev R d none
    (fun u hu => absurd hu (by simp)) .ret Q)
  iintro ⟨Hk, Hb, Hp, Hl, Hg, Ht⟩
  isplitl [Hk]
  · iintro H
    rw [wp_ret]; imodintro
    iapply Hk; iexact H
  isplitl [Hb]; · iexact Hb
  isplitl [Hp]; · iexact Hp
  isplitl [Hl]; · iexact Hl
  isplitl [Hg]; · iexact Hg
  iexact Ht

theorem preA (d : Dev nD) : (regionA m).pre d = (iprop(unscopedBufs d (Vw (W1 m) d) ∗ owesLow (F := F) d b0 (O0 (F := F) d)) : sProp 𝕄) := rfl
theorem postA (d : Dev nD) : (regionA m).post d = (iprop(unscopedBufs d (Vw (W2 m) d) ∗ owesLow (F := F) d b0 (O0 (F := F) d)) : sProp 𝕄) := rfl
theorem preB (d : Dev nD) : (regionB m).pre d = (iprop(unscopedBufs d (Vw (W5 m) d) ∗ owesLow (F := F) d b1 (O1 (F := F) d)) : sProp 𝕄) := rfl
theorem postB (d : Dev nD) : (regionB m).post d = (iprop(unscopedBufs d (Vw (W6 m) d) ∗ owesLow (F := F) d b1 (O1 (F := F) d)) : sProp 𝕄) := rfl

/-! ## The TensorCore's program -/

/-- What the launch gives a device. -/
abbrev G (d : Dev nD) : sProp 𝕄 := bigSep Finset.univ fun p : Fin 2 => ghosts (F := F) d p
/-- What a device ends with. -/
abbrev FIN (d : Dev nD) : sProp 𝕄 := StableHlo.held (d.tc : Thread nD τ) (ucRefs τ sig) (W7 m d)

set_option backward.isDefEq.respectTransparency.types false in
theorem hmain (κ : GSem nD τ sig → ℕ) (d : Dev nD) :
    iprop((K (F := F)).ctx EH (P (psL m) (keyL m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = StableHlo.held (d.tc : Thread nD τ) (ucRefs τ sig) (W0 m d) from
    unscopedBufs_held (Ix := HIx 1) (Name := ℕ) (U := UU) (Lvl := ℕ) d (W0 m d)]
  rw [show (G (F := F) d) = iprop(ghosts (F := F) d 0 ∗ ghosts (F := F) d 1) from bigSep_fin_two _]
  iintro ⟨#Hctx, Hst, ⟨Hb, Hheld, Hts, -⟩, Hg0, Hg1⟩
  ihave #Hlev := ((K (F := F)).ctx_levAts κ) $$ Hctx
  -- the bounds
  iapply (StableHlo.wp_seq 𝒱 none Set.univ d (ucRefs τ sig) _ opsA (fun op h => sub_ucRefs op (opsA_sub op h)) opsA_fresh (W0 m d)) $$ [Hb Hheld]
  · isplitl [Hb] <;> iassumption
  iintro ⟨Hb, Hheld⟩
  -- the first pipeline
  rw [wp_bind]
  unfold SparseCore.Cfg.tcSt
  icases Hst with ⟨HO, Hst⟩
  iapply (pass 0 _ (regionA m) d _)
  rw [preA, postA]
  isplitr [Hb Hheld HO Hg0]; swap
  · isplitl [Hb]; · iexact Hb
    isplitl [Hheld HO]
    · isplitl [Hheld]
      · iapply (Entails.of_eq (unscopedBufs_held (Ix := HIx 1) (Name := ℕ) (U := UU) (Lvl := ℕ) d (W1 m d)).symm); iexact Hheld
      · iexact HO
    isplitr; · iexact Hlev
    iexact Hg0
  iintro ⟨Hb, Hheld, HO⟩
  ihave Hheld := (Entails.of_eq (unscopedBufs_held (Ix := HIx 1) (Name := ℕ) (U := UU) (Lvl := ℕ) d (W2 m d))) $$ Hheld
  -- the lines laid out
  iapply (StableHlo.wp_seq 𝒱 none Set.univ d (ucRefs τ sig) _ opsB (fun op h => sub_ucRefs op (opsB_sub op h)) opsB_fresh (W2 m d)) $$ [Hb Hheld]
  · isplitl [Hb] <;> iassumption
  iintro ⟨Hb, Hheld⟩
  -- the SparseCore call
  rw [wp_bind]
  ihave Hheld := (call_split m d) $$ Hheld
  icases Hheld with ⟨Hcall, Hrest⟩
  ihave Hcall := (give_out (psL m) (keyL m) d _ _) $$ Hcall
  iapply ((K (F := F)).wp_run (D (F := F)) 𝒱 (EH := EH) (P := P (psL m) (keyL m)) κ d 0)
  isplitr; · iexact Hctx
  isplitl [Hst HO]
  · unfold SparseCore.Cfg.tcSt
    isplitl [HO]; · iexact HO
    iexact Hst
  isplitl [Hcall]; · iexact Hcall
  iintro ⟨Hst, Hdn⟩
  ihave Hdn := (take_back (psL m) (keyL m) d) $$ Hdn
  ihave Hheld := (Entails.of_eq (held_W4 m d).symm) $$ [Hdn Hrest]
  · isplitl [Hdn]; · iexact Hdn
    iexact Hrest
  -- the tables laid out
  iapply (StableHlo.wp_seq 𝒱 none Set.univ d (ucRefs τ sig) _ opsC (fun op h => sub_ucRefs op (opsC_sub op h)) opsC_fresh (W4 m d)) $$ [Hb Hheld]
  · isplitl [Hb] <;> iassumption
  iintro ⟨Hb, Hheld⟩
  -- the second pipeline
  rw [wp_bind]
  unfold SparseCore.Cfg.tcSt
  icases Hst with ⟨HO, Hst⟩
  iapply (pass 1 _ (regionB m) d _)
  rw [preB, postB]
  isplitr [Hb Hheld HO Hg1]; swap
  · isplitl [Hb]; · iexact Hb
    isplitl [Hheld HO]
    · isplitl [Hheld]
      · iapply (Entails.of_eq (unscopedBufs_held (Ix := HIx 1) (Name := ℕ) (U := UU) (Lvl := ℕ) d (W5 m d)).symm); iexact Hheld
      · iexact HO
    isplitr; · iexact Hlev
    iexact Hg1
  iintro ⟨Hb, Hheld, HO⟩
  ihave Hheld := (Entails.of_eq (unscopedBufs_held (Ix := HIx 1) (Name := ℕ) (U := UU) (Lvl := ℕ) d (W6 m d))) $$ Hheld
  -- the result as a scalar
  iapply (StableHlo.wp_seq 𝒱 none Set.univ d (ucRefs τ sig) _ opsD (fun op h => sub_ucRefs op (opsD_sub op h)) opsD_fresh (W6 m d)) $$ [Hb Hheld]
  · isplitl [Hb] <;> iassumption
  iintro ⟨Hb, Hheld⟩
  rw [wp_pure]; imodintro
  isplitl [HO Hst]
  · isplitl [HO]; · iexact HO
    iexact Hst
  isplitl [Hheld]; · iexact Hheld
  isplitl [Hb] <;> iassumption

/-! ## The launch -/

def u₀ : UU := (initOf (K (F := F)).hsCells (K (F := F)).hsToks,
  (initOf (Pipeline.cells (Pipeline.pin (pcfgs (F := F)) adm) pin_inj) (Pipeline.launchToks (Pipeline.pin (pcfgs (F := F)) adm) pin_inj), 1))

theorem none_of_many {I : Type} (s : Finset I) : (bigSep s fun _ => iprop(emp)) = (iprop(emp) : sProp 𝕄) := bigSep_emp_const s

theorem hu₀ : (ownU (u₀ (F := F)) : sProp 𝕄) ⊢ |={Set.univ}=> iprop(BI.own (EH (initOf (K (F := F)).hsCells (K (F := F)).hsToks))
    ∗ (bigSep Finset.univ fun d : Dev nD => G (F := F) d) ∗ bigSep Finset.univ fun thr : Thread nD τ => bigSep Finset.univ fun q : Fin 1 => (P (psL m) (keyL m)).x q thr) := by
  have hx : (iprop(emp) : sProp 𝕄) ⊢ bigSep Finset.univ fun thr : Thread nD τ => bigSep Finset.univ fun q : Fin 1 => (P (psL m) (keyL m)).x q thr := by
    show _ ⊢ bigSep Finset.univ fun _ : Thread nD τ => bigSep Finset.univ fun _ : Fin 1 => (iprop(emp) : sProp 𝕄)
    rw [bigSep_congr fun _ _ => none_of_many (F := F) _, none_of_many]
  have hG : (iprop((bigSep Finset.univ fun c : Dev nD => bigSep Finset.univ fun p => cellsGhost (Pipeline.pin (pcfgs (F := F)) adm) EP p c)
        ∗ bigSep Finset.univ fun c : Dev nD => bigSep Finset.univ fun p => toksInit (Pipeline.pin (pcfgs (F := F)) adm) EP p c) : sProp 𝕄)
      ⊢ bigSep Finset.univ fun d : Dev nD => G (F := F) d := by
    unfold G ghosts
    simp only [bigSep_sep']
    exact BIBase.Entails.refl
  have hEP : (BI.own (embR (A := UH) (initOf (Pipeline.cells (Pipeline.pin (pcfgs (F := F)) adm) pin_inj) (Pipeline.launchToks (Pipeline.pin (pcfgs (F := F)) adm) pin_inj), (1 : Counters))) : sProp 𝕄)
      ⊢ BI.own (EP (initOf (Pipeline.cells (Pipeline.pin (pcfgs (F := F)) adm) pin_inj) (Pipeline.launchToks (Pipeline.pin (pcfgs (F := F)) adm) pin_inj))) := BIBase.Entails.refl
  unfold u₀
  iintro Hu
  ihave H := (ownU_pair _ _) $$ Hu
  icases H with ⟨HL, HR⟩
  ihave HR := hEP $$ HR
  imod (Pipeline.fund_ghost (Pipeline.pin (pcfgs (F := F)) adm) EP pin_inj) $$ HR with HR
  imodintro
  isplitl [HL]; · iexact HL
  isplitl [HR]; · iapply hG; iexact HR
  iapply hx; iempintro

/-- What the claims read of a final state: the result is the last stage's and the arguments are as at launch. -/
def fq (d : Dev nD) (s' : Phys nD τ sig (Elt F)) : Prop :=
  s'.mem.mem ((d.tc : Thread nD τ).loc main_v8) = W7 m d main_v8 ∧ s'.mem.mem ((d.tc : Thread nD τ).loc main_arg0) = m ((d.tc : Thread nD τ).loc main_arg0)
    ∧ s'.mem.mem ((d.tc : Thread nD τ).loc main_arg1) = m ((d.tc : Thread nD τ).loc main_arg1)

abbrev endRefs : Finset (DevRef τ sig) := {(main_v8 : DevRef τ sig), (main_arg0 : DevRef τ sig), (main_arg1 : DevRef τ sig)}

theorem endRefs_sub : endRefs ⊆ ucRefs τ sig := by
  intro b hb
  simp only [endRefs, Finset.mem_insert, Finset.mem_singleton] at hb
  rcases hb with rfl | rfl | rfl <;> exact Finset.mem_filter.mpr ⟨StableHlo.devRef_mem_tcRefs _, by decide⟩

theorem held_end (d : Dev nD) (W : Valuation τ sig (Elt F)) :
    (StableHlo.held (d.tc : Thread nD τ) endRefs W : sProp 𝕄)
      = iprop((((d.tc : Thread nD τ).loc main_v8) ↦{fullShare} W main_v8) ∗ (((d.tc : Thread nD τ).loc main_arg0) ↦{fullShare} W main_arg0)
          ∗ ((d.tc : Thread nD τ).loc main_arg1) ↦{fullShare} W main_arg1) := by
  unfold StableHlo.held endRefs
  rw [bigSep_insert (by simp only [Finset.mem_insert, Finset.mem_singleton, not_or]
                        exact ⟨StableHlo.devRef_ne_of_ne (by decide), StableHlo.devRef_ne_of_ne (by decide)⟩),
    bigSep_insert (by simp only [Finset.mem_singleton]; exact StableHlo.devRef_ne_of_ne (by decide)),
    bigSep_singleton]
  rfl

theorem hfin (d : Dev nD) (s' : Phys nD τ sig (Elt F)) : iprop(FIN m d ∗ SI s') ⊢ (⌜fq m d s'⌝ : sProp 𝕄) := by
  unfold FIN
  rw [StableHlo.held_sub_split _ endRefs_sub, held_end, W7_arg0, W7_arg1]
  iintro ⟨⟨⟨H8, H0, H1⟩, -⟩, HSI⟩
  ihave H := (persistent_entails_right (SI_pointsTo_agree (st := s') (ℓ := (d.tc : Thread nD τ).loc main_v8) (I := Finset.univ) (q := fullShare) (f := W7 m d main_v8))) $$ [HSI H8]
  · isplitl [HSI] <;> iassumption
  icases H with ⟨%h8, HSI, -⟩
  ihave H := (persistent_entails_right (SI_pointsTo_agree (st := s') (ℓ := (d.tc : Thread nD τ).loc main_arg0) (I := Finset.univ) (q := fullShare) (f := m ((d.tc : Thread nD τ).loc main_arg0)))) $$ [HSI H0]
  · isplitl [HSI] <;> iassumption
  icases H with ⟨%h0, HSI, -⟩
  ihave H := (SI_pointsTo_agree (st := s') (ℓ := (d.tc : Thread nD τ).loc main_arg1) (I := Finset.univ) (q := fullShare) (f := m ((d.tc : Thread nD τ).loc main_arg1))) $$ [HSI H1]
  · isplitl [HSI] <;> iassumption
  icases H with %h1
  ipureintro
  exact ⟨funext fun i => h8 i (Finset.mem_univ i), funext fun i => h0 i (Finset.mem_univ i), funext fun i => h1 i (Finset.mem_univ i)⟩

/-- The final states: the result is the last stage's, the arguments are as at launch, the semaphores are zero. -/
def QC : PUnit × MemSt nD τ sig (Elt F) → Prop := fun r =>
  (∀ d : Dev nD, r.2.mem ((d.tc : Thread nD τ).loc main_v8) = W7 m d main_v8 ∧ r.2.mem ((d.tc : Thread nD τ).loc main_arg0) = m ((d.tc : Thread nD τ).loc main_arg0)
    ∧ r.2.mem ((d.tc : Thread nD τ).loc main_arg1) = m ((d.tc : Thread nD τ).loc main_arg1)) ∧ r.2.sem = fun _ => 0

/-- From any memory with the semaphores at zero the program runs to such a state. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (psL m) (keyL m)) (A := ∅) facts v₀
    (fun q hq => match q with | 0 => nomatch hq)
    (fun q _ => match q with | 0 => tileObl (psL m) (keyL m) (keyL_lt m))
    (fun q _ => match q with | 0 => SparseCore.Cfg.VecSplit.of_plain (vecSplit (psL m) (keyL m)))
    m ρ main (fun d => G (F := F) d) (FIN m) (u₀ (F := F)) (sep_elim_left.trans (hu₀ m)) (hmain m ρ) (fq m) (hfin m) (QC m) (fun _ h hz => ⟨h, hz⟩)

/-- The frame: the program runs, its arguments and semaphores ending as they were. -/
theorem framed : Cert.quiescent_KernelIdeal := fun m ρ _ =>
  (θ_run Cert.KernelIdeal.defs _ _).mono (fun _ h => ⟨fun c => (h.1 c).2, h.2⟩) (run_main (F := Ideal) m ρ)

end Cert.Proof.OnIdeal

end
-- ==== Proof.Pixel.lean ====
/-
  One pixel, in extended reals: the first channel at which a row of logits is greatest, the softmax's greatest entry, and
  the bin that a confidence falls in.
-/
module

public import Idealize.ShloMosaic.PureOps.Ideal.Laws
public import Idealize.ShloMosaic.Lib.Pointwise.Index
public import Mathlib.Algebra.Order.BigOperators.Group.Finset
public import Mathlib.Data.EReal.Operations

@[expose] public section

set_option maxRecDepth 16384

noncomputable section

namespace Cert.Proof.Pixel

open Idealize.ShloMosaic
open scoped BigOperators

/-! ## The first place of the greatest value -/

/-- `a` is the first of the places below `n` at which `v` is greatest. -/
structure IsFirst (n : ℕ) (v : ℕ → EReal) (a : ℕ) : Prop where
  lt : a < n
  le : ∀ c, c < n → v c ≤ v a
  before : ∀ c, c < a → v c < v a

theorem IsFirst.congr {n : ℕ} {v w : ℕ → EReal} {a : ℕ} (h : IsFirst n v a) (e : ∀ c, c < n → w c = v c) : IsFirst n w a :=
  ⟨h.lt, fun c hc => by rw [e c hc, e a h.lt]; exact h.le c hc,
    fun c hc => by rw [e c (hc.trans h.lt), e a h.lt]; exact h.before c hc⟩

theorem IsFirst.unique {n : ℕ} {v : ℕ → EReal} {a b : ℕ} (ha : IsFirst n v a) (hb : IsFirst n v b) : a = b := by
  rcases Nat.lt_trichotomy a b with h | h | h
  · exact absurd (hb.before a h) (not_lt.2 (ha.le b hb.lt))
  · exact h
  · exact absurd (ha.before b h) (not_lt.2 (hb.le a ha.lt))

/-- The running maximum over the places `0 … n`, as the kernel takes it. -/
def topTo (v : ℕ → EReal) : ℕ → EReal
  | 0 => v 0
  | n + 1 => Scalar.select (Ideal.cmp .ogt (v (n + 1)) (topTo v n)) (v (n + 1)) (topTo v n)

/-- The running place of it. -/
def argTo (v : ℕ → EReal) : ℕ → BitVec 32
  | 0 => 0#32
  | n + 1 => Scalar.select (Ideal.cmp .ogt (v (n + 1)) (topTo v n)) (BitVec.ofNat 32 (n + 1)) (argTo v n)

theorem cmp_ogt_one (x y : EReal) : Ideal.cmp .ogt x y = 1#1 ↔ y < x := by
  show BitVec.ofBool (decide (y < x)) = 1#1 ↔ y < x
  by_cases h : y < x <;> simp [h]

theorem cmp_ole_one (x y : EReal) : Ideal.cmp .ole x y = 1#1 ↔ x ≤ y := by
  show BitVec.ofBool (decide (x ≤ y)) = 1#1 ↔ x ≤ y
  by_cases h : x ≤ y <;> simp [h]

/-- The running place is the first place of the greatest value, and the running maximum is the value there. -/
theorem argTo_first (v : ℕ → EReal) (n : ℕ) (hn : n < 4294967296) :
    IsFirst (n + 1) v (argTo v n).toNat ∧ topTo v n = v (argTo v n).toNat := by
  induction n with
  | zero =>
    refine ⟨⟨Nat.one_pos, fun c hc => ?_, fun c hc => absurd hc (Nat.not_lt_zero c)⟩, rfl⟩
    obtain rfl : c = 0 := by omega
    exact le_refl _
  | succ n ih =>
    obtain ⟨⟨h1, h2, h3⟩, h4⟩ := ih (by omega)
    by_cases hc : topTo v n < v (n + 1)
    · have e := (cmp_ogt_one _ _).2 hc
      have ea : (argTo v (n + 1)).toNat = n + 1 := by
        show (Scalar.select (Ideal.cmp .ogt (v (n + 1)) (topTo v n)) (BitVec.ofNat 32 (n + 1)) (argTo v n)).toNat = _
        rw [e]
        show (BitVec.ofNat 32 (n + 1)).toNat = n + 1
        rw [BitVec.toNat_ofNat]; omega
      have et : topTo v (n + 1) = v (n + 1) := by
        show Scalar.select (Ideal.cmp .ogt (v (n + 1)) (topTo v n)) (v (n + 1)) (topTo v n) = _
        rw [e]; rfl
      rw [ea, et]
      refine ⟨⟨Nat.lt_succ_self _, fun c hc' => ?_, fun c hc' => ?_⟩, rfl⟩
      · rcases Nat.lt_or_ge c (n + 1) with h | h
        · exact le_of_lt (lt_of_le_of_lt (h4 ▸ h2 c h) hc)
        · obtain rfl : c = n + 1 := by omega
          exact le_refl _
      · exact lt_of_le_of_lt (h4 ▸ h2 c hc') hc
    · have e : Ideal.cmp .ogt (v (n + 1)) (topTo v n) ≠ 1#1 := fun h => hc ((cmp_ogt_one _ _).1 h)
      have ea : argTo v (n + 1) = argTo v n := if_neg e
      have et : topTo v (n + 1) = topTo v n := if_neg e
      rw [ea, et]
      refine ⟨⟨by omega, fun c hc' => ?_, h3⟩, h4⟩
      rcases Nat.lt_or_ge c (n + 1) with h | h
      · exact h2 c h
      · obtain rfl : c = n + 1 := by omega
        exact h4 ▸ not_lt.1 hc

/-- The running sum over the places `0 … n`. -/
def sumTo (f : ℕ → EReal) : ℕ → EReal
  | 0 => f 0
  | n + 1 => sumTo f n + f (n + 1)

theorem sumTo_eq (f : ℕ → EReal) (n : ℕ) : sumTo f n = ∑ c ∈ Finset.range (n + 1), f c := by
  induction n with
  | zero => rw [Finset.sum_range_one]; rfl
  | succ n ih => rw [Finset.sum_range_succ, ← ih]; rfl

/-! ## The softmax of finite logits -/

/-- The sum of the exponentials above the greatest logit. -/
def expSum (x : ℕ → ℝ) (a : ℕ) : ℝ := ∑ c ∈ Finset.range 19, Real.exp (x c - x a)

/-- An entry of the softmax. -/
def soft (x : ℕ → ℝ) (a c : ℕ) : ℝ := Real.exp (x c - x a) / expSum x a

theorem expSum_ge (x : ℕ → ℝ) (a : ℕ) (ha : a < 19) : 1 ≤ expSum x a := by
  have h := Finset.single_le_sum (f := fun c => Real.exp (x c - x a)) (s := Finset.range 19)
    (fun c _ => (Real.exp_pos _).le) (Finset.mem_range.2 ha)
  simpa [expSum] using h

theorem exp_coe (x y : ℝ) : Ideal.exp ((x : EReal) - (y : EReal)) = ((Real.exp (x - y) : ℝ) : EReal) := by
  rw [← EReal.coe_sub]; rfl

theorem sum_coe (s : Finset ℕ) (f : ℕ → ℝ) : (∑ c ∈ s, ((f c : ℝ) : EReal)) = ((∑ c ∈ s, f c : ℝ) : EReal) := by
  induction s using Finset.cons_induction with
  | empty => simp
  | cons a s h ih => rw [Finset.sum_cons, Finset.sum_cons, ih, EReal.coe_add]

theorem div_coe (x y : ℝ) (hy : 0 < y) : Ideal.div (x : EReal) (y : EReal) = ((x / y : ℝ) : EReal) := by
  unfold Ideal.div
  rw [if_neg (by exact_mod_cast hy.ne'), div_eq_mul_inv, EReal.coe_mul, EReal.coe_inv]

theorem soft_top (x : ℕ → ℝ) (a : ℕ) : soft x a a = 1 / expSum x a := by
  unfold soft; rw [sub_self, Real.exp_zero]

theorem soft_pos (x : ℕ → ℝ) (a c : ℕ) (ha : a < 19) : 0 < soft x a c :=
  div_pos (Real.exp_pos _) (lt_of_lt_of_le one_pos (expSum_ge x a ha))

theorem soft_top_le (x : ℕ → ℝ) (a : ℕ) (ha : a < 19) : soft x a a ≤ 1 := by
  rw [soft_top, div_le_one (lt_of_lt_of_le one_pos (expSum_ge x a ha))]
  exact expSum_ge x a ha

/-- The softmax is greatest first where the logits are. -/
theorem soft_first (x : ℕ → ℝ) (a : ℕ) (h : IsFirst 19 (fun c => (x c : EReal)) a) :
    IsFirst 19 (fun c => (soft x a c : EReal)) a := by
  have hs : 0 < expSum x a := lt_of_lt_of_le one_pos (expSum_ge x a h.lt)
  refine ⟨h.lt, fun c hc => ?_, fun c hc => ?_⟩
  · have := EReal.coe_le_coe_iff.1 (h.le c hc)
    refine EReal.coe_le_coe_iff.2 ?_
    unfold soft
    exact div_le_div_of_nonneg_right (Real.exp_le_exp.2 (by linarith)) hs.le
  · have := EReal.coe_lt_coe_iff.1 (h.before c hc)
    refine EReal.coe_lt_coe_iff.2 ?_
    unfold soft
    exact div_lt_div_of_pos_right (Real.exp_lt_exp.2 (by linarith)) hs

/-- The kernel's running sum is the sum of the exponentials. -/
theorem sumTo_exp (v : ℕ → EReal) (x : ℕ → ℝ) (a : ℕ) (hv : ∀ c, c < 19 → v c = (x c : EReal)) (ha : a < 19) :
    sumTo (fun c => Ideal.exp (v c - v a)) 18 = ((expSum x a : ℝ) : EReal) := by
  rw [sumTo_eq, expSum, ← sum_coe]
  refine Finset.sum_congr rfl fun c hc => ?_
  rw [hv c (Finset.mem_range.1 hc), hv a ha, exp_coe]

/-! ## The bins -/

/-- Ten marks in falling order, the first set and the last not: how many of the inner nine are set names the place
    where they stop. -/
theorem stop_iff (c : ℕ → ℕ) (h1 : ∀ n, c n ≤ 1) (hm : ∀ n, n < 10 → c (n + 1) ≤ c n) (h0 : c 0 = 1) (hX : c 10 = 0) (b : ℕ) (hb : b < 10) :
    c 1 + c 2 + c 3 + c 4 + c 5 + c 6 + c 7 + c 8 + c 9 = b ↔ (c b = 1 ∧ c (b + 1) = 0) := by
  have a1 := h1 1; have a2 := h1 2; have a3 := h1 3; have a4 := h1 4; have a5 := h1 5
  have a6 := h1 6; have a7 := h1 7; have a8 := h1 8; have a9 := h1 9
  have m1 := hm 1 (by omega); have m2 := hm 2 (by omega); have m3 := hm 3 (by omega); have m4 := hm 4 (by omega)
  have m5 := hm 5 (by omega); have m6 := hm 6 (by omega); have m7 := hm 7 (by omega); have m8 := hm 8 (by omega)
  have hc : b = 0 ∨ b = 1 ∨ b = 2 ∨ b = 3 ∨ b = 4 ∨ b = 5 ∨ b = 6 ∨ b = 7 ∨ b = 8 ∨ b = 9 := by omega
  clear h1 hm
  simp only [Nat.reduceAdd] at m1 m2 m3 m4 m5 m6 m7 m8
  rcases hc with rfl | rfl | rfl | rfl | rfl | rfl | rfl | rfl | rfl | rfl <;> simp only [Nat.reduceAdd] <;> omega

/-- Whether a bound lies below a confidence, as a number. -/
def mark (B : ℕ → EReal) (p : EReal) (n : ℕ) : ℕ := if B n < p then 1 else 0

/-- With rising bounds, the first below and the last not, the number of inner bounds below a confidence is the bin that
    holds it: above its lower bound and at most its upper one. -/
theorem bin_iff (B : ℕ → EReal) (p : EReal) (hB : ∀ n, n < 10 → B n ≤ B (n + 1)) (h0 : B 0 < p) (hX : p ≤ B 10) (b : ℕ) (hb : b < 10) :
    mark B p 1 + mark B p 2 + mark B p 3 + mark B p 4 + mark B p 5 + mark B p 6 + mark B p 7 + mark B p 8 + mark B p 9 = b
      ↔ (B b < p ∧ p ≤ B (b + 1)) := by
  rw [stop_iff (mark B p) (fun n => by unfold mark; split <;> omega) (fun n hn => ?_) (if_pos h0) (if_neg (not_lt.2 hX)) b hb]
  · have e1 : mark B p b = 1 ↔ B b < p := by unfold mark; split <;> simp [*]
    have e2 : mark B p (b + 1) = 0 ↔ p ≤ B (b + 1) := by
      unfold mark; split
      · rename_i h; simp [not_le.2 h]
      · rename_i h; simp [not_lt.1 h]
    rw [e1, e2]
  · unfold mark
    by_cases h : B (n + 1) < p
    · rw [if_pos h, if_pos (lt_of_le_of_lt (hB n hn) h)]
    · rw [if_neg h]; exact Nat.zero_le _

/-- The logits of one pixel of the image, by channel. -/
def logit (X : (⟨4, ![8, 19, 512, 512]⟩ : Shape).Idx → EReal) (j : (⟨3, ![8, 512, 512]⟩ : Shape).Idx) (c : ℕ) : EReal :=
  if h : c < 19 then X (ix4 (j 0) ⟨c, h⟩ (j 1) (j 2)) else 0

/-- A bound of the bins, by its number. -/
def bound (B : (⟨1, ![11]⟩ : Shape).Idx → EReal) (n : ℕ) : EReal := if h : n < 11 then B (ix1 ⟨n, h⟩) else 0

end Cert.Proof.Pixel

end
-- ==== Proof.RefPixel.lean ====
/-
  The reference at one pixel, on exact numbers: the softmax, its greatest entry and that entry's channel.
-/
module

public import proofs.«01_k».proof.Proof.RefRun
public import proofs.«01_k».proof.Proof.Pixel
public import Idealize.ShloMosaic.Lib.Pipeline.ValueKit
public import Idealize.ShloMosaic.Lib.IdealHost

@[expose] public section

set_option maxRecDepth 16384

noncomputable section

namespace Cert.Proof.Ref
open Cert.ReferenceIdeal Cert.ReferenceIdeal.Gen Cert.Proof.Pixel
open Idealize.ShloMosaic Idealize.ShloMosaic.TcCoe
open scoped BigOperators

theorem bits_bot : Ideal.ofBits .f32 0xFF800000#32 = ⊥ := by
  simp [Ideal.ofBits, Ideal.ieee]

theorem red1 : S8x19x512x512.Reduces [1] S8x512x512 := by decide

theorem lift_at (j : S8x512x512.Idx) (k : Fin 19) : red1.lift j k = ix4 (j 0) k (j 1) (j 2) := by
  funext a
  apply Fin.ext
  match a with
  | 0 => rfl
  | 1 => rfl
  | 2 => rfl
  | 3 => rfl

theorem logit_at (X : S8x19x512x512.Idx → EReal) (j : S8x512x512.Idx) (k : Fin 19) : logit X j k.val = X (ix4 (j 0) k (j 1) (j 2)) := by
  rw [logit, dif_pos k.isLt]

theorem lift_logit (X : S8x19x512x512.Idx → EReal) (j : S8x512x512.Idx) (k : Fin 19) : X (red1.lift j k) = logit X j k.val := by
  rw [logit_at]
  exact congrArg X (lift_at j k)

/-- The greatest entry along the channels. -/
theorem reduceMax_at (X : S8x19x512x512.Idx → EReal) (j : S8x512x512.Idx) (a : ℕ) (h : IsFirst 19 (logit X j) a) :
    Host.reduce (FloatOps.maximumf (F := Ideal) (φ := .f32)) X (constant (F := Ideal) S_ .f32 0xFF800000#32) reducesTo_S8x19x512x512_S8x512x512_d1 h_S_ j
      = logit X j a := by
  show Host.reduce (max : EReal → EReal → EReal) X (constant (F := Ideal) S_ .f32 0xFF800000#32) reducesTo_S8x19x512x512_S8x512x512_d1 h_S_ j
      = logit X j a
  rw [Host.reduce_eq_fold_single (max : EReal → EReal → EReal) X _ reducesTo_S8x19x512x512_S8x512x512_d1 red1]
  have hb : (constant (F := Ideal) S_ .f32 0xFF800000#32) (Shape.Idx.first h_S_) = (⊥ : EReal) := bits_bot
  rw [hb]
  apply le_antisymm
  · refine Finset.fold_max_le _ |>.2 ⟨bot_le, fun k _ => ?_⟩
    exact (lift_logit X j k).le.trans (h.le k.val k.isLt)
  · refine Finset.le_fold_max _ |>.2 (Or.inr ⟨⟨a, h.lt⟩, Finset.mem_univ _, ?_⟩)
    exact (lift_logit X j ⟨a, h.lt⟩).ge

/-- The greatest logit of every pixel. -/
def topR (X : S8x19x512x512.Idx → EReal) : S8x512x512.Idx → EReal :=
  Host.reduce (FloatOps.maximumf (F := Ideal) (φ := .f32)) X (constant (F := Ideal) S_ .f32 0xFF800000#32) reducesTo_S8x19x512x512_S8x512x512_d1 h_S_

/-- The exponentials, each of a logit less the pixel's greatest one. -/
def expR (X : S8x19x512x512.Idx → EReal) (M : S8x512x512.Idx → EReal) : S8x19x512x512.Idx → EReal :=
  Host.exp (F := Ideal) (φ := .f32) (subf (F := Ideal) (φ := .f32) X (broadcastInDim S8x19x512x512 ![0, 1, 2, 3] bcast_S8x1x512x512_S8x19x512x512_0_1_2_3
    (broadcastInDim S8x1x512x512 ![0, 2, 3] bcast_S8x512x512_S8x1x512x512_0_2_3
      (maximumf (F := Ideal) (φ := .f32) (broadcastInDim S8x512x512 ![] bcast_S_S8x512x512 (constant (F := Ideal) S_ .f32 0xFF800000#32)) M))))

/-- A quotient by what each pixel has. -/
def overR (E : S8x19x512x512.Idx → EReal) (D : S8x512x512.Idx → EReal) : S8x19x512x512.Idx → EReal :=
  Host.divf (F := Ideal) (φ := .f32) E (broadcastInDim S8x19x512x512 ![0, 1, 2, 3] bcast_S8x1x512x512_S8x19x512x512_0_1_2_3
    (broadcastInDim S8x1x512x512 ![0, 2, 3] bcast_S8x512x512_S8x1x512x512_0_2_3 D))

theorem expR_at (X : S8x19x512x512.Idx → EReal) (M : S8x512x512.Idx → EReal) (j : S8x512x512.Idx) (k : Fin 19) :
    expR X M (ix4 (j 0) k (j 1) (j 2)) = Ideal.exp (X (ix4 (j 0) k (j 1) (j 2)) - M j) := by
  have hi : (fun b : Fin 3 => (⟨(j b).val, (j b).isLt⟩ : Fin _)) = j := rfl
  show Ideal.exp (X (ix4 (j 0) k (j 1) (j 2)) - max (Ideal.ofBits .f32 0xFF800000#32) (M _)) = _
  rw [bits_bot, max_eq_right bot_le]
  refine congrArg (fun t => Ideal.exp (X (ix4 (j 0) k (j 1) (j 2)) - M t)) ?_
  funext a
  apply Fin.ext
  match a with
  | 0 => rfl
  | 1 => rfl
  | 2 => rfl

theorem overR_at (E : S8x19x512x512.Idx → EReal) (D : S8x512x512.Idx → EReal) (j : S8x512x512.Idx) (k : Fin 19) :
    overR E D (ix4 (j 0) k (j 1) (j 2)) = Ideal.div (E (ix4 (j 0) k (j 1) (j 2))) (D j) := by
  show Ideal.div (E (ix4 (j 0) k (j 1) (j 2))) (D _) = _
  refine congrArg (fun t => Ideal.div (E (ix4 (j 0) k (j 1) (j 2))) (D t)) ?_
  funext a
  apply Fin.ext
  match a with
  | 0 => rfl
  | 1 => rfl
  | 2 => rfl

theorem sm_parts (X : S8x19x512x512.Idx → EReal) : sm (F := Ideal) X = overR (expR X (topR X))
    (Host.reduceAdd (F := Ideal) (φ := .f32) (expR X (topR X)) (constant (F := Ideal) S_ .f32 0x00000000#32) reducesTo_S8x19x512x512_S8x512x512_d1 h_S_) := rfl

/-- The sum along the channels. -/
theorem sumR_at (E : S8x19x512x512.Idx → EReal) (j : S8x512x512.Idx) :
    Host.reduceAdd (F := Ideal) (φ := .f32) E (constant (F := Ideal) S_ .f32 0x00000000#32) reducesTo_S8x19x512x512_S8x512x512_d1 h_S_ j
      = ∑ c ∈ Finset.range 19, logit E j c := by
  refine (Ideal.hostReduceAdd_single reducesTo_S8x19x512x512_S8x512x512_d1 red1 E (Ideal.ofBits .f32 0x00000000#32) j).trans ?_
  rw [Ideal.ofBits_zero_f32, zero_add]
  refine (Finset.sum_congr rfl fun k _ => ?_).trans (Finset.sum_range (n := 19) (logit E j)).symm
  exact lift_logit E j k

/-- The softmax of a pixel with finite logits. -/
theorem sm_soft (X : S8x19x512x512.Idx → EReal) (j : S8x512x512.Idx) (x : ℕ → ℝ) (a : ℕ) (h : IsFirst 19 (logit X j) a)
    (hx : ∀ c, c < 19 → logit X j c = (x c : EReal)) (c : ℕ) (hc : c < 19) : logit (sm (F := Ideal) X) j c = ((soft x a c : ℝ) : EReal) := by
  have hM : topR X j = (x a : EReal) := (reduceMax_at X j a h).trans (hx a h.lt)
  have hE : ∀ k : Fin 19, expR X (topR X) (ix4 (j 0) k (j 1) (j 2)) = ((Real.exp (x k.val - x a) : ℝ) : EReal) := fun k => by
    rw [expR_at, ← logit_at X, hx k.val k.isLt, hM, exp_coe]
  have hS : (∑ k ∈ Finset.range 19, logit (expR X (topR X)) j k) = ((expSum x a : ℝ) : EReal) := by
    rw [expSum, ← sum_coe]
    refine Finset.sum_congr rfl fun k hk => ?_
    exact (logit_at _ j ⟨k, Finset.mem_range.1 hk⟩).trans (hE ⟨k, Finset.mem_range.1 hk⟩)
  refine (logit_at _ j ⟨c, hc⟩).trans ?_
  rw [sm_parts, overR_at, hE ⟨c, hc⟩, sumR_at, hS, div_coe _ _ (lt_of_lt_of_le one_pos (expSum_ge x a h.lt))]
  rfl

/-- The softmax has its first greatest entry where the logits have theirs. -/
theorem sm_first (X : S8x19x512x512.Idx → EReal) (j : S8x512x512.Idx) (x : ℕ → ℝ) (a : ℕ) (h : IsFirst 19 (logit X j) a)
    (hx : ∀ c, c < 19 → logit X j c = (x c : EReal)) : IsFirst 19 (logit (sm (F := Ideal) X) j) a :=
  (soft_first x a (h.congr fun c hc => (hx c hc).symm)).congr fun c hc => sm_soft X j x a h hx c hc

/-- The softmax's greatest entry. -/
theorem smMax_at (X : S8x19x512x512.Idx → EReal) (j : S8x512x512.Idx) (x : ℕ → ℝ) (a : ℕ) (h : IsFirst 19 (logit X j) a)
    (hx : ∀ c, c < 19 → logit X j c = (x c : EReal)) : smMax (F := Ideal) X j = ((soft x a a : ℝ) : EReal) :=
  (reduceMax_at _ j a (sm_first X j x a h hx)).trans (sm_soft X j x a h hx a h.lt)

/-! ## The channel of the greatest entry -/

/-- `r` is greater than `p`, or as great and no later. -/
def Beats (r p : EReal × BitVec 32) : Prop := p.1 < r.1 ∨ (p.1 = r.1 ∧ r.2.toNat ≤ p.2.toNat)

theorem Beats.refl (r : EReal × BitVec 32) : Beats r r := Or.inr ⟨rfl, le_rfl⟩

theorem Beats.trans {r p q : EReal × BitVec 32} (h : Beats r p) (k : Beats p q) : Beats r q := by
  rcases h with h | ⟨h, h'⟩ <;> rcases k with k | ⟨k, k'⟩
  · exact Or.inl (k.trans h)
  · exact Or.inl (k ▸ h)
  · exact Or.inl (h ▸ k)
  · exact Or.inr ⟨k.trans h, h'.trans k'⟩

/-- The reducer keeps the better of two. -/
theorem keep (a b : EReal × BitVec 32) (ha : a.2.toNat < 2147483648) (hb : b.2.toNat < 2147483648) :
    (reducer_argmax_f32_i32 (F := Ideal) a b = a ∧ Beats a b) ∨ (reducer_argmax_f32_i32 (F := Ideal) a b = b ∧ Beats b a) := by
  obtain ⟨a, i⟩ := a
  obtain ⟨b, k⟩ := b
  have hf : reducer_argmax_f32_i32 (F := Ideal) (a, i) (b, k)
      = (Scalar.select (BitVec.ofBool (decide (b < a)) ||| BitVec.ofBool (decide (a ≠ a))) a b,
        Scalar.select ((BitVec.ofBool (decide (b < a)) ||| BitVec.ofBool (decide (a ≠ a)))
          ||| (BitVec.ofBool (decide (a = b)) &&& BitVec.ofBool (BitVec.slt i k))) i k) := rfl
  have hs : BitVec.slt i k = decide (i.toNat < k.toNat) := by
    rw [BitVec.slt_eq_decide, BitVec.toInt_eq_toNat_of_lt (by simp only at ha; omega), BitVec.toInt_eq_toNat_of_lt (by simp only at hb; omega)]
    simp
  rw [hf, hs]
  rcases lt_trichotomy a b with h | h | h
  · right
    refine ⟨?_, Or.inl h⟩
    simp [h.ne, not_lt.2 h.le, Scalar.select]
  · subst h
    by_cases hk : i.toNat < k.toNat
    · left
      refine ⟨?_, Or.inr ⟨rfl, hk.le⟩⟩
      simp [hk, Scalar.select]
    · right
      refine ⟨?_, Or.inr ⟨rfl, not_lt.1 hk⟩⟩
      simp [hk, Scalar.select]
  · left
    refine ⟨?_, Or.inl h⟩
    simp [h, h.ne', Scalar.select]

/-- A fold of the reducer is one of what it folds, and the best of them. -/
theorem fold_best (l : List (EReal × BitVec 32)) (a : EReal × BitVec 32) (h : ∀ p ∈ a :: l, p.2.toNat < 2147483648) :
    l.foldl (reducer_argmax_f32_i32 (F := Ideal)) a ∈ a :: l ∧ ∀ p ∈ a :: l, Beats (l.foldl (reducer_argmax_f32_i32 (F := Ideal)) a) p := by
  induction l generalizing a with
  | nil => exact ⟨List.mem_cons_self, fun p hp => by rw [List.mem_singleton.1 hp]; exact Beats.refl a⟩
  | cons b l ih =>
    have ha := h a List.mem_cons_self
    have hb := h b (List.mem_cons_of_mem _ List.mem_cons_self)
    have hl : ∀ p ∈ l, p.2.toNat < 2147483648 := fun p hp => h p (List.mem_cons_of_mem _ (List.mem_cons_of_mem _ hp))
    rw [List.foldl_cons]
    rcases keep a b ha hb with ⟨e, k⟩ | ⟨e, k⟩
    · rw [e]
      obtain ⟨h1, h2⟩ := ih a (fun p hp => by
        rcases List.mem_cons.1 hp with rfl | hp
        · exact ha
        · exact hl p hp)
      refine ⟨?_, fun p hp => ?_⟩
      · rcases List.mem_cons.1 h1 with h1 | h1
        · rw [h1]; exact List.mem_cons_self
        · exact List.mem_cons_of_mem _ (List.mem_cons_of_mem _ h1)
      · rcases List.mem_cons.1 hp with rfl | hp
        · exact h2 _ List.mem_cons_self
        · rcases List.mem_cons.1 hp with rfl | hp
          · exact (h2 a List.mem_cons_self).trans k
          · exact h2 p (List.mem_cons_of_mem _ hp)
    · rw [e]
      obtain ⟨h1, h2⟩ := ih b (fun p hp => by
        rcases List.mem_cons.1 hp with rfl | hp
        · exact hb
        · exact hl p hp)
      refine ⟨List.mem_cons_of_mem _ h1, fun p hp => ?_⟩
      rcases List.mem_cons.1 hp with rfl | hp
      · exact (h2 b List.mem_cons_self).trans k
      · exact h2 p hp

section Along

variable {s t : Shape} {a : Fin s.rank}

/-- What a fold of pairs along one axis goes over: the entries with what stands beside them. -/
theorem mem_fiber {α β : Type} (h' : s.ReducesTo [a] t) (h : s.Reduces [a] t) (x : s.Idx → α) (y : s.Idx → β) (j : t.Idx) (p : α × β) :
    p ∈ Host.argReduceFiber x y h' j ↔ ∃ k : Fin (s.size a), p = (x (h.lift j k), y (h.lift j k)) := by
  unfold Host.argReduceFiber
  rw [List.mem_map]
  constructor
  · rintro ⟨n, hn, rfl⟩
    have hd' : h.drop (s.rowMajor.symm n) = j := of_decide_eq_true (List.mem_filter.1 hn).2
    have hm : s.rowMajor.symm n ∈ Finset.univ.filter (fun i => h.drop i = j) := Finset.mem_filter.2 ⟨Finset.mem_univ _, hd'⟩
    rw [h.filter_drop_eq_image_lift j] at hm
    obtain ⟨k, -, hk⟩ := Finset.mem_image.1 hm
    exact ⟨k, by rw [← hk]⟩
  · rintro ⟨k, rfl⟩
    refine ⟨s.rowMajor (h.lift j k), List.mem_filter.2 ⟨List.mem_finRange _, decide_eq_true ?_⟩, ?_⟩
    · rw [Equiv.symm_apply_apply]
      exact h.drop_lift j k
    · rw [Equiv.symm_apply_apply]

/-- A fold of the reducer along one axis, over entries with their places, has the place of the first greatest entry. -/
theorem fold_place (h' : s.ReducesTo [a] t) (h : s.Reduces [a] t) (Y : s.Idx → EReal) (I : s.Idx → BitVec 32) (j : t.Idx)
    (hs : s.size a < 2147483648) (hI : ∀ k, I (h.lift j k) = BitVec.ofNat 32 k.val) (k0 : Fin (s.size a))
    (hle : ∀ k, Y (h.lift j k) ≤ Y (h.lift j k0)) (hlt : ∀ k, k < k0 → Y (h.lift j k) < Y (h.lift j k0)) (hb : ⊥ < Y (h.lift j k0)) :
    ((Host.argReduceFiber Y I h' j).foldl (reducer_argmax_f32_i32 (F := Ideal)) ((⊥ : EReal), 0#32)).2 = BitVec.ofNat 32 k0.val := by
  have hn : ∀ k : Fin (s.size a), (BitVec.ofNat 32 k.val).toNat = k.val := fun k => by
    have := k.isLt
    rw [BitVec.toNat_ofNat, Nat.mod_eq_of_lt (by omega)]
  have hsmall : ∀ p ∈ ((⊥ : EReal), 0#32) :: Host.argReduceFiber Y I h' j, p.2.toNat < 2147483648 := by
    intro p hp
    rcases List.mem_cons.1 hp with rfl | hp
    · show (0#32).toNat < _
      simp
    · obtain ⟨k, rfl⟩ := (mem_fiber h' h Y I j p).1 hp
      show (I (h.lift j k)).toNat < _
      rw [hI, hn]
      exact k.isLt.trans hs
  obtain ⟨h1, h2⟩ := fold_best _ _ hsmall
  generalize List.foldl _ _ _ = r at h1 h2 ⊢
  have hr := h2 _ (List.mem_cons_of_mem _ ((mem_fiber h' h Y I j _).2 ⟨k0, rfl⟩))
  rcases List.mem_cons.1 h1 with rfl | h1
  · rcases hr with h' | ⟨h', -⟩
    · exact absurd h' not_lt_bot
    · exact absurd h' hb.ne'
  · obtain ⟨k, rfl⟩ := (mem_fiber h' h Y I j r).1 h1
    show I (h.lift j k) = _
    rw [hI]
    rcases hr with h' | ⟨e, h'⟩
    · exact absurd h' (not_lt.2 (hle k))
    · have h'' : k.val ≤ k0.val := by
        have : (I (h.lift j k)).toNat ≤ (I (h.lift j k0)).toNat := h'
        rwa [hI, hI, hn, hn] at this
      rcases Nat.lt_or_ge k.val k0.val with hk | hk
      · exact absurd e (hlt k hk).ne'
      · rw [Nat.le_antisymm h'' hk]

/-- The same of the whole operation. -/
theorem arg_place {u : Shape} (h' : s.ReducesTo [a] t) (h : s.Reduces [a] t) (hu : 0 < u.numel) (Y : s.Idx → EReal) (I : s.Idx → BitVec 32)
    (ix : u.Idx → EReal) (iy : u.Idx → BitVec 32) (hix : ix (Shape.Idx.first hu) = ⊥) (hiy : iy (Shape.Idx.first hu) = 0#32) (j : t.Idx)
    (hs : s.size a < 2147483648) (hI : ∀ k, I (h.lift j k) = BitVec.ofNat 32 k.val) (k0 : Fin (s.size a))
    (hle : ∀ k, Y (h.lift j k) ≤ Y (h.lift j k0)) (hlt : ∀ k, k < k0 → Y (h.lift j k) < Y (h.lift j k0)) (hb : ⊥ < Y (h.lift j k0)) :
    (Host.argReduce (F := Ideal) (φ := .f32) (reducer_argmax_f32_i32 (F := Ideal)) Y I ix iy h' hu j).2 = BitVec.ofNat 32 k0.val := by
  rw [Ideal.argReduce_eq_reduce2, Host.reduce2_eq_foldl_fiber, hix, hiy]
  exact fold_place h' h Y I j hs hI k0 hle hlt hb

end Along

theorem smArg_eq (X : S8x19x512x512.Idx → EReal) : smArg (F := Ideal) X = fun j =>
    (Host.argReduce (F := Ideal) (φ := .f32) (reducer_argmax_f32_i32 (F := Ideal)) (sm (F := Ideal) X) (iotaInDim S8x19x512x512 32 1)
      (constant (F := Ideal) S_ .f32 0xFF800000#32) (constantI S_ 32 0#32) reducesTo_S8x19x512x512_S8x512x512_d1 h_S_ j).2 := by
  delta smArg
  beta_reduce
  rfl

/-- The channel of the softmax's first greatest entry. -/
theorem smArg_at (X : S8x19x512x512.Idx → EReal) (j : S8x512x512.Idx) (x : ℕ → ℝ) (a : ℕ) (h : IsFirst 19 (logit X j) a)
    (hx : ∀ c, c < 19 → logit X j c = (x c : EReal)) : smArg (F := Ideal) X j = BitVec.ofNat 32 a := by
  have hv := sm_soft X j x a h hx
  have hF := sm_first X j x a h hx
  have hb : ⊥ < logit (sm (F := Ideal) X) j a := by
    rw [hv a h.lt]
    exact EReal.bot_lt_coe _
  rw [smArg_eq]
  generalize sm (F := Ideal) X = Y at hF hb ⊢
  have h0 := lift_logit Y j ⟨a, h.lt⟩
  exact arg_place reducesTo_S8x19x512x512_S8x512x512_d1 red1 h_S_ Y (iotaInDim S8x19x512x512 32 1)
    (constant (F := Ideal) S_ .f32 0xFF800000#32) (constantI S_ 32 0#32) bits_bot rfl j (show 19 < 2147483648 by decide) (fun k => rfl) ⟨a, h.lt⟩
    (fun k => (lift_logit Y j k).le.trans ((hF.le k.val k.isLt).trans h0.ge))
    (fun k hk => (lift_logit Y j k).trans_lt ((hF.before k.val hk).trans_le h0.ge))
    (hb.trans_le h0.ge)

end Cert.Proof.Ref

end
-- ==== Proof.Calibration.lean ====
/-
  The last kernel in extended reals: from the tables of the tiles it computes the calibration error, the weighted sum
  over ten bins of the squared gap between the share of right predictions and the mean confidence.
-/
module

public import proofs.«01_k».proof.Proof.FinalPipeOnIdeal
public import Idealize.ShloMosaic.Lib.Pipeline.ValueKit
public import Idealize.ShloMosaic.PureOps.Ideal.Laws

@[expose] public section

set_option maxRecDepth 16384

noncomputable section

namespace Cert.Proof.Cal

open Cert.KernelIdeal Cert.KernelIdeal.Gen Cert.Proof.OnIdeal
open Idealize.ShloMosaic
open scoped BigOperators

/-- A sum over the ten bins, in their order. -/
def ten (f : ℕ → EReal) : EReal := f 0 + f 1 + f 2 + f 3 + f 4 + f 5 + f 6 + f 7 + f 8 + f 9

/-- The gap of a bin: the distance of its share of right predictions from its mean confidence. -/
def gap (conf cnt hit : EReal) : EReal :=
  let e : EReal := FloatOps.ofBits (F := Ideal) .f32 0x29E12E13#32
  let d : EReal := Ideal.div hit (cnt + e) - Ideal.div conf (cnt + e)
  max d (-d)

/-- The calibration error, of the ten summed confidences, the ten counts and the ten counts of right predictions. -/
def calib (conf cnt hit : ℕ → EReal) : EReal :=
  ten fun b => gap (conf b) (cnt b) (hit b) * gap (conf b) (cnt b) (hit b) * Ideal.div (cnt b) (ten cnt)

theorem ten_congr {f g : ℕ → EReal} (h : ∀ b, b < 10 → f b = g b) : ten f = ten g := by
  unfold ten
  rw [h 0 (by decide), h 1 (by decide), h 2 (by decide), h 3 (by decide), h 4 (by decide), h 5 (by decide), h 6 (by decide), h 7 (by decide),
    h 8 (by decide), h 9 (by decide)]

/-- Only the ten bins matter. -/
theorem calib_congr {c c' n n' h h' : ℕ → EReal} (hc : ∀ b, b < 10 → c b = c' b) (hn : ∀ b, b < 10 → n b = n' b) (hh : ∀ b, b < 10 → h b = h' b) :
    calib c n h = calib c' n' h' := by
  unfold calib
  refine ten_congr fun b hb => ?_
  rw [hc b hb, hn b hb, hh b hb, ten_congr hn]

/-- Row `r` of the count tables, over all tiles and lanes. -/
def rowN (N : S32x20x16.Idx → EReal) (r : ℕ) : EReal := if h : r < 20 then ∑ k : Fin 16, ∑ w : Fin 32, N (ix3 w ⟨r, h⟩ k) else 0

/-- Row `b` of the confidence tables, over all tiles and lanes. -/
def rowC (C : S32x10x16.Idx → EReal) (b : ℕ) : EReal := if h : b < 10 then ∑ k : Fin 16, ∑ w : Fin 32, C (ix3 w ⟨b, h⟩ k) else 0

variable (N : FVec Ideal S32x20x16 .f32) (C : FVec Ideal S32x10x16 .f32)

theorem col20 (r : Fin 20) (k : Fin 16) : k2_pay3 (F := Ideal) N (ix2 r k) = ∑ w : Fin 32, N (ix3 w r k) := by
  pointwise [k2_pay3]

theorem col10 (r : Fin 10) (k : Fin 16) : k2_pay2 (F := Ideal) C (ix2 r k) = ∑ w : Fin 32, C (ix3 w r k) := by
  pointwise [k2_pay2]

theorem tab20 (v : FVec Ideal S20x16 .f32) (r : ℕ) (hr : r < 20) (h : S20x16.Slices ![r, 0] S1x16) :
    extractAt ![0, 0] (shapeCast S1x1 (multiReduction .add [1] S1 (shapeCast S1x16 (shapeCast S16 (extractStridedSlice S1x16 ![r, 0] v h)
      shapeCasts_S1x16_S16) shapeCasts_S16_S1x16) 0x00000000#32 reduces_S1x16_S1 (.inl rfl) rfl) shapeCasts_S1_S1x1) inpos_S1x1_p0_0
      = ∑ k : Fin 16, v (ix2 ⟨r, hr⟩ k) := by
  pointwise

theorem tab10 (v : FVec Ideal S10x16 .f32) (r : ℕ) (hr : r < 10) (h : S10x16.Slices ![r, 0] S1x16) :
    extractAt ![0, 0] (shapeCast S1x1 (multiReduction .add [1] S1 (shapeCast S1x16 (shapeCast S16 (extractStridedSlice S1x16 ![r, 0] v h)
      shapeCasts_S1x16_S16) shapeCasts_S16_S1x16) 0x00000000#32 reduces_S1x16_S1 (.inl rfl) rfl) shapeCasts_S1_S1x1) inpos_S1x1_p0_0
      = ∑ k : Fin 16, v (ix2 ⟨r, hr⟩ k) := by
  pointwise

/-- A row of the count tables, as the kernel sums it. -/
theorem row20 (r : ℕ) (hr : r < 20) (h : S20x16.Slices ![r, 0] S1x16) :
    extractAt ![0, 0] (shapeCast S1x1 (multiReduction .add [1] S1 (shapeCast S1x16 (shapeCast S16 (extractStridedSlice S1x16 ![r, 0] (k2_pay3 (F := Ideal) N) h)
      shapeCasts_S1x16_S16) shapeCasts_S16_S1x16) 0x00000000#32 reduces_S1x16_S1 (.inl rfl) rfl) shapeCasts_S1_S1x1) inpos_S1x1_p0_0
      = rowN N r := by
  rw [tab20 _ r hr h, rowN, dif_pos hr]
  exact Finset.sum_congr rfl fun k _ => col20 N _ k

/-- A row of the confidence tables, as the kernel sums it. -/
theorem row10 (r : ℕ) (hr : r < 10) (h : S10x16.Slices ![r, 0] S1x16) :
    extractAt ![0, 0] (shapeCast S1x1 (multiReduction .add [1] S1 (shapeCast S1x16 (shapeCast S16 (extractStridedSlice S1x16 ![r, 0] (k2_pay2 (F := Ideal) C) h)
      shapeCasts_S1x16_S16) shapeCasts_S16_S1x16) 0x00000000#32 reduces_S1x16_S1 (.inl rfl) rfl) shapeCasts_S1_S1x1) inpos_S1x1_p0_0
      = rowC C r := by
  rw [tab10 _ r hr h, rowC, dif_pos hr]
  exact Finset.sum_congr rfl fun k _ => col10 C _ k

/-! ## The rows that the parts of the kernel hand on -/

theorem conf0 : k2_pay6 (F := Ideal) C = rowC C 0 := row10 C 0 (by decide) slices_S10x16_o0_0_S1x16
theorem conf1 : k2_pay9 (F := Ideal) C = rowC C 1 := row10 C 1 (by decide) slices_S10x16_o1_0_S1x16
theorem conf2 : k2_pay13 (F := Ideal) (k2_pay2 (F := Ideal) C) = rowC C 2 := row10 C 2 (by decide) slices_S10x16_o2_0_S1x16
theorem conf3 : k2_pay16 (F := Ideal) (k2_pay2 (F := Ideal) C) = rowC C 3 := row10 C 3 (by decide) slices_S10x16_o3_0_S1x16
theorem conf4 : k2_pay20 (F := Ideal) (k2_pay19 (F := Ideal) (k2_pay2 (F := Ideal) C)) = rowC C 4 := row10 C 4 (by decide) slices_S10x16_o4_0_S1x16
theorem conf5 : k2_pay23 (F := Ideal) (k2_pay2 (F := Ideal) C) = rowC C 5 := row10 C 5 (by decide) slices_S10x16_o5_0_S1x16
theorem conf6 : k2_pay26 (F := Ideal) (k2_pay2 (F := Ideal) C) = rowC C 6 := row10 C 6 (by decide) slices_S10x16_o6_0_S1x16
theorem conf7 : k2_pay31 (F := Ideal) (k2_pay2 (F := Ideal) C) = rowC C 7 := row10 C 7 (by decide) slices_S10x16_o7_0_S1x16
theorem conf8 : k2_pay34 (F := Ideal) (k2_pay2 (F := Ideal) C) = rowC C 8 := row10 C 8 (by decide) slices_S10x16_o8_0_S1x16
theorem conf9 : k2_pay37 (F := Ideal) (k2_pay2 (F := Ideal) C) = rowC C 9 := row10 C 9 (by decide) slices_S10x16_o9_0_S1x16
theorem hit0 : k2_pay4 (F := Ideal) N = rowN N 1 := row20 N 1 (by decide) slices_S20x16_o1_0_S1x16
theorem hit1 : k2_pay7 (F := Ideal) N = rowN N 3 := row20 N 3 (by decide) slices_S20x16_o3_0_S1x16
theorem hit2 : k2_pay11 (F := Ideal) (k2_pay3 (F := Ideal) N) = rowN N 5 := row20 N 5 (by decide) slices_S20x16_o5_0_S1x16
theorem hit3 : k2_pay14 (F := Ideal) (k2_pay3 (F := Ideal) N) = rowN N 7 := row20 N 7 (by decide) slices_S20x16_o7_0_S1x16
theorem hit4 : k2_pay17 (F := Ideal) (k2_pay3 (F := Ideal) N) = rowN N 9 := row20 N 9 (by decide) slices_S20x16_o9_0_S1x16
theorem hit5 : k2_pay21 (F := Ideal) (k2_pay3 (F := Ideal) N) = rowN N 11 := row20 N 11 (by decide) slices_S20x16_o11_0_S1x16
theorem hit6 : k2_pay24 (F := Ideal) (k2_pay3 (F := Ideal) N) = rowN N 13 := row20 N 13 (by decide) slices_S20x16_o13_0_S1x16
theorem hit7 : k2_pay29 (F := Ideal) (k2_pay28 (F := Ideal) (k2_pay3 (F := Ideal) N)) = rowN N 15 := row20 N 15 (by decide) slices_S20x16_o15_0_S1x16
theorem hit8 : k2_pay32 (F := Ideal) (k2_pay3 (F := Ideal) N) = rowN N 17 := row20 N 17 (by decide) slices_S20x16_o17_0_S1x16
theorem hit9 : k2_pay35 (F := Ideal) (k2_pay3 (F := Ideal) N) = rowN N 19 := row20 N 19 (by decide) slices_S20x16_o19_0_S1x16
theorem cnt0 : k2_pay5 (F := Ideal) N = rowN N 0 + rowN N 1 :=
  congrArg₂ (fun a c : EReal => a + c) (row20 N 0 (by decide) slices_S20x16_o0_0_S1x16) (hit0 N)
theorem cnt1 : k2_pay8 (F := Ideal) N = rowN N 2 + rowN N 3 :=
  congrArg₂ (fun a c : EReal => a + c) (row20 N 2 (by decide) slices_S20x16_o2_0_S1x16) (hit1 N)
theorem cnt2 : k2_pay12 (F := Ideal) (k2_pay3 (F := Ideal) N) (k2_pay10 (F := Ideal) N) = rowN N 4 + rowN N 5 :=
  congrArg₂ (fun a c : EReal => a + c) (row20 N 4 (by decide) slices_S20x16_o4_0_S1x16) (hit2 N)
theorem cnt3 : k2_pay15 (F := Ideal) (k2_pay3 (F := Ideal) N) = rowN N 6 + rowN N 7 :=
  congrArg₂ (fun a c : EReal => a + c) (row20 N 6 (by decide) slices_S20x16_o6_0_S1x16) (hit3 N)
theorem cnt4 : k2_pay18 (F := Ideal) (k2_pay3 (F := Ideal) N) = rowN N 8 + rowN N 9 :=
  congrArg₂ (fun a c : EReal => a + c) (row20 N 8 (by decide) slices_S20x16_o8_0_S1x16) (hit4 N)
theorem cnt5 : k2_pay22 (F := Ideal) (k2_pay3 (F := Ideal) N) = rowN N 10 + rowN N 11 :=
  congrArg₂ (fun a c : EReal => a + c) (row20 N 10 (by decide) slices_S20x16_o10_0_S1x16) (hit5 N)
theorem cnt6 : k2_pay25 (F := Ideal) (k2_pay3 (F := Ideal) N) = rowN N 12 + rowN N 13 :=
  congrArg₂ (fun a c : EReal => a + c) (row20 N 12 (by decide) slices_S20x16_o12_0_S1x16) (hit6 N)
theorem cnt7 : k2_pay30 (F := Ideal) (k2_pay27 (F := Ideal) (k2_pay3 (F := Ideal) N)) (k2_pay28 (F := Ideal) (k2_pay3 (F := Ideal) N)) = rowN N 14 + rowN N 15 :=
  congrArg₂ (fun a c : EReal => a + c) (row20 N 14 (by decide) slices_S20x16_o14_0_S1x16) (hit7 N)
theorem cnt8 : k2_pay33 (F := Ideal) (k2_pay3 (F := Ideal) N) = rowN N 16 + rowN N 17 :=
  congrArg₂ (fun a c : EReal => a + c) (row20 N 16 (by decide) slices_S20x16_o16_0_S1x16) (hit8 N)
theorem cnt9 : k2_pay36 (F := Ideal) (k2_pay3 (F := Ideal) N) = rowN N 18 + rowN N 19 :=
  congrArg₂ (fun a c : EReal => a + c) (row20 N 18 (by decide) slices_S20x16_o18_0_S1x16) (hit9 N)

theorem zero3 : (![0, 0, 0] : Fin 3 → ℕ) = fun _ => 0 := by
  funext a; fin_cases a <;> rfl

/-- The last kernel's value. -/
theorem errv_eq : errv (F := Ideal) C N = calib (rowC C) (fun b => rowN N (2 * b) + rowN N (2 * b + 1)) (fun b => rowN N (2 * b + 1)) := by
  have hC : View.ld (Val := Elt Ideal) (e' := .f32) C (Rect.unit (s := S32x10x16) ![0, 0, 0] S32x10x16.size inb_S32x10x16_S32x10x16_0_0_0) = C :=
    View.ld_unit_zero (Val := Elt Ideal) (e := .f32) zero3 inb_S32x10x16_S32x10x16_0_0_0 C
  have hN : View.ld (Val := Elt Ideal) (e' := .f32) N (Rect.unit (s := S32x20x16) ![0, 0, 0] S32x20x16.size inb_S32x20x16_S32x20x16_0_0_0) = N :=
    View.ld_unit_zero (Val := Elt Ideal) (e := .f32) zero3 inb_S32x20x16_S32x20x16_0_0_0 N
  unfold errv
  simp only [hC, hN]
  rw [conf0, conf1, conf2, conf3, conf4, conf5, conf6, conf7, conf8, conf9, hit0, hit1, hit2, hit3, hit4, hit5, hit6, hit7, hit8, hit9, cnt0, cnt1, cnt2, cnt3, cnt4, cnt5, cnt6, cnt7, cnt8, cnt9]
  simp only [k2_pay1, k2_pay40, k2_pay41, k2_pay39, k2_pay38]
  show ((((((((((FloatOps.ofBits (F := Ideal) .f32 0x00000000#32 + _) + _) + _) + _) + _) + _) + _) + _) + _) + _ : EReal) = _
  rw [show (FloatOps.ofBits (F := Ideal) .f32 0x00000000#32 : EReal) = 0 from Ideal.ofBits_zero_f32, zero_add]
  rfl

end Cert.Proof.Cal

end
-- ==== Proof.Sums.lean ====
/-
  The tables of the histogram kernel in extended reals: an entry is the sum of what its lane's elements of its row
  bring, and all the tiles' and lanes' entries of a row together are one sum over all the pixels.
-/
module

public import proofs.«01_k».proof.Proof.Tally
public import Idealize.ShloMosaic.PureOps.Ideal.Laws
public import Idealize.ShloMosaic.Lib.IdealHost
public import Mathlib.Algebra.BigOperators.Intervals

@[expose] public section

set_option maxRecDepth 16384

noncomputable section

namespace Cert.Proof.Tally

open Idealize.ShloMosaic Cert.Proof.Lanes
open scoped BigOperators

theorem bits_zero : (FloatOps.ofBits (F := Ideal) .f32 0x00000000#32 : EReal) = 0 := Ideal.ofBits_zero_f32

/-- The pattern of one denotes one. -/
theorem bits_one : (FloatOps.ofBits (F := Ideal) .f32 0x3F800000#32 : EReal) = 1 := Ideal.ofBits_one_f32

/-- An entry of the confidence table, as a sum. -/
theorem confAt_sum (ps : Line.Idx → EReal) (key : Line.Idx → BitVec 32) (base n : ℕ) (j : Conf.Idx) :
    confAt (F := Ideal) ps key base n j
      = ∑ m ∈ Finset.range n, if (at1 key (base + 16 * m + (j 0).val % 16)).toNat / 2 = (j 0).val / 16
          then at1 ps (base + 16 * m + (j 0).val % 16) else 0 := by
  induction n with
  | zero => rw [Finset.sum_range_zero]; exact bits_zero
  | succ n ih =>
    rw [Finset.sum_range_succ, ← ih]
    show (if (at1 key (base + 16 * n + (j 0).val % 16)).toNat / 2 = (j 0).val / 16
      then confAt (F := Ideal) ps key base n j + at1 ps (base + 16 * n + (j 0).val % 16) else confAt (F := Ideal) ps key base n j) = _
    split
    · rfl
    · rw [add_zero]

/-- An entry of the count table, as a sum. -/
theorem cntAt_sum (key : Line.Idx → BitVec 32) (base n : ℕ) (j : Cnt.Idx) :
    cntAt (F := Ideal) key base n j
      = ∑ m ∈ Finset.range n, if (at1 key (base + 16 * m + (j 0).val % 16)).toNat = (j 0).val / 16 then (1 : EReal) else 0 := by
  induction n with
  | zero => rw [Finset.sum_range_zero]; exact bits_zero
  | succ n ih =>
    rw [Finset.sum_range_succ, ← ih]
    show (if (at1 key (base + 16 * n + (j 0).val % 16)).toNat = (j 0).val / 16
      then cntAt (F := Ideal) key base n j + FloatOps.ofBits (F := Ideal) .f32 0x3F800000#32 else cntAt (F := Ideal) key base n j) = _
    rw [bits_one]
    split
    · rfl
    · rw [add_zero]

/-- A sum of runs is one sum. -/
theorem sum_runs {α : Type} [AddCommMonoid α] (f : ℕ → α) (a b : ℕ) :
    ∑ w ∈ Finset.range a, ∑ m ∈ Finset.range b, f (b * w + m) = ∑ n ∈ Finset.range (b * a), f n := by
  induction a with
  | zero => simp
  | succ a ih => rw [Finset.sum_range_succ, ih, Nat.mul_succ, Finset.sum_range_add]

/-- The lanes of the tiles together pass over all the pixels. -/
theorem sum_pixels {α : Type} [AddCommMonoid α] (f : ℕ → α) :
    ∑ k : Fin 16, ∑ w : Fin 32, ∑ m ∈ Finset.range 4096, f (65536 * w.val + 16 * m + k.val) = ∑ n ∈ Finset.range 2097152, f n := by
  rw [Finset.sum_comm]
  have e : ∀ w : Fin 32, ∑ k : Fin 16, ∑ m ∈ Finset.range 4096, f (65536 * w.val + 16 * m + k.val)
      = ∑ n ∈ Finset.range 65536, f (65536 * w.val + n) := fun w => by
    rw [Finset.sum_comm, ← sum_runs (fun n => f (65536 * w.val + n)) 4096 16]
    refine Finset.sum_congr rfl fun m _ => ?_
    rw [Finset.sum_range]
    exact Finset.sum_congr rfl fun k _ => by rw [Nat.add_assoc]
  rw [Finset.sum_congr rfl fun w _ => e w, ← sum_runs f 32 65536, Finset.sum_range (n := 32)]

/-- A sum over the entries of a line is the sum by number. -/
theorem sum_line {α : Type} [AddCommMonoid α] (f : Line.Idx → α) : ∑ i : Fin 2097152, f (Shape.ofLane (d := ![2097152]) i) = ∑ n ∈ Finset.range 2097152, at1 f n := by
  rw [Finset.sum_range]
  refine Finset.sum_congr rfl fun i _ => ?_
  exact at1_of f _ i.val rfl

end Cert.Proof.Tally

end
-- ==== Proof.RefBins.lean ====
/-
  The reference's bins, on exact numbers: the bounds, which pixel falls in which bin, each bin's sum, count and hits as sums
  over the pixels, and the weighted error of the ten bins.
-/
module

public import proofs.«01_k».proof.Proof.RefPixel
public import proofs.«01_k».proof.Proof.Calibration
public import proofs.«01_k».proof.Proof.Sums
public import Idealize.ShloMosaic.Lib.IndicatorCount

@[expose] public section

set_option maxRecDepth 16384

noncomputable section

namespace Cert.Proof.Ref
open Cert.ReferenceIdeal Cert.ReferenceIdeal.Gen Cert.Proof.Pixel
open Idealize.ShloMosaic Idealize.ShloMosaic.TcCoe
open scoped BigOperators

/-! ## Counting along one axis -/

theorem ones_coe {ι : Type} (S : Finset ι) (p : ι → Prop) [DecidablePred p] :
    (∑ i ∈ S, if p i then (1 : EReal) else 0) = (((S.filter p).card : ℝ) : EReal) := by
  classical
  induction S using Finset.induction_on with
  | empty => simp
  | insert a S ha ih =>
    rw [Finset.sum_insert ha, ih, Finset.filter_insert]
    by_cases h : p a
    · rw [if_pos h, if_pos h, Finset.card_insert_of_notMem fun hm => ha (Finset.mem_filter.1 hm).1, Nat.cast_add, Nat.cast_one, EReal.coe_add,
        EReal.coe_one, add_comm]
    · rw [if_neg h, if_neg h, zero_add]

section Along

variable {s t u : Shape} {a : Fin s.rank}

/-- A count of the ones along an axis, as a number. -/
theorem count_along (h' : s.ReducesTo [a] t) (h : s.Reduces [a] t) (hu : 0 < u.numel) (K : s.Idx → BitVec 1) (iy : u.Idx → BitVec 32)
    (hiy : iy (Shape.Idx.first hu) = 0#32) (j : t.Idx) (hs : s.size a < 2147483648) :
    (((Host.reduce IntOp.addi (fun i => (K i).setWidth 32) iy h' hu j).toInt : ℝ) : EReal) = ∑ k : Fin (s.size a), if K (h.lift j k) = 1#1 then (1 : EReal) else 0 := by
  have e : Host.reduce IntOp.addi (fun i => (K i).setWidth 32) iy h' hu j
      = BitVec.ofNat 32 ((Finset.univ : Finset (Fin (s.size a))).filter fun k => K (h.lift j k) = 1#1).card := by
    rw [Host.reduce_eq_fold_single IntOp.addi _ iy h' h hu j, hiy]
    exact IndicatorCount.fold_addi_setWidth_eq_card (w := 32) (fun k => K (h.lift j k)) Finset.univ
  have hc : ((Finset.univ : Finset (Fin (s.size a))).filter fun k => K (h.lift j k) = 1#1).card < 2147483648 :=
    lt_of_le_of_lt ((Finset.card_filter_le _ _).trans (by simp)) hs
  rw [e, ones_coe]
  generalize Finset.card _ = n at hc
  have hn : (BitVec.ofNat 32 n).toNat = n := by rw [BitVec.toNat_ofNat, Nat.mod_eq_of_lt (by omega)]
  rw [BitVec.toInt_eq_toNat_of_lt (by omega), hn]
  simp

end Along

/-! ## Each bin's sum, count and hits -/

theorem red2 : S10x2097152.Reduces [1] S10 := by decide

theorem lift2_at (b : Fin 10) (k : Fin 2097152) : red2.lift (ix1 b) k = ix2 b k := by
  funext a
  apply Fin.ext
  match a with
  | 0 => rfl
  | 1 => rfl

theorem mask_eq (L : S11.Idx → EReal) (M : S8x512x512.Idx → EReal) (b : Fin 10) (n : Fin 2097152) :
    mask (F := Ideal) L M (ix2 b n) = IntOp.andi (Ideal.cmp .ogt (flatMax (F := Ideal) M (ix1 n)) (bound L b.val))
      (Ideal.cmp .ole (flatMax (F := Ideal) M (ix1 n)) (bound L (b.val + 1))) := by
  have h0 : bound L b.val = L (ix1 ⟨b.val, by have := b.isLt; omega⟩) := by rw [bound, dif_pos]
  have h1 : bound L (b.val + 1) = L (ix1 ⟨b.val + 1, by have := b.isLt; omega⟩) := by rw [bound, dif_pos]
  rw [h0, h1]
  delta mask
  generalize flatMax (F := Ideal) M = p
  show IntOp.andi (Ideal.cmp .ogt (p _) (L _)) (Ideal.cmp .ole (p _) (L _)) = _
  have e0 : ∀ {i i' : S2097152.Idx}, (i 0).val = (i' 0).val → p i = p i' := fun {i i'} h => congrArg p (by
    funext a
    apply Fin.ext
    match a with
    | 0 => exact h)
  have e1 : ∀ {i i' : S11.Idx}, (i 0).val = (i' 0).val → L i = L i' := fun {i i'} h => congrArg L (by
    funext a
    apply Fin.ext
    match a with
    | 0 => exact h)
  refine congrArg₂ IntOp.andi (congrArg₂ (Ideal.cmp .ogt) (e0 rfl) (e1 ?_)) (congrArg₂ (Ideal.cmp .ole) (e0 rfl) (e1 ?_))
  · show 0 + b.val = b.val
    omega
  · show 1 + b.val = b.val + 1
    omega

theorem mask_one (L : S11.Idx → EReal) (M : S8x512x512.Idx → EReal) (b : Fin 10) (n : Fin 2097152) :
    mask (F := Ideal) L M (ix2 b n) = 1#1 ↔ bound L b.val < flatMax (F := Ideal) M (ix1 n) ∧ flatMax (F := Ideal) M (ix1 n) ≤ bound L (b.val + 1) := by
  rw [mask_eq, ← cmp_ogt_one, ← cmp_ole_one]
  generalize Ideal.cmp .ogt _ _ = x
  generalize Ideal.cmp .ole _ _ = y
  revert x y
  decide

theorem binSum_at (p : S2097152.Idx → EReal) (K : S10x2097152.Idx → BitVec 1) (b : Fin 10) :
    binSum (F := Ideal) p K (ix1 b) = ∑ n : Fin 2097152, if K (ix2 b n) = 1#1 then p (ix1 n) else 0 := by
  delta binSum
  beta_reduce
  refine (Ideal.hostReduceAdd_single reducesTo_S10x2097152_S10_d1 red2 _ (Ideal.ofBits .f32 0x00000000#32) (ix1 b)).trans ?_
  rw [Ideal.ofBits_zero_f32, zero_add]
  refine Finset.sum_congr rfl fun n _ => ?_
  refine (congrArg _ (lift2_at b n)).trans ?_
  show Scalar.select (K (ix2 b n)) (p _) (Ideal.ofBits .f32 0x00000000#32) = _
  rw [Ideal.ofBits_zero_f32]
  unfold Scalar.select
  refine congrArg (fun i => if K (ix2 b n) = 1#1 then p i else 0) ?_
  funext a
  apply Fin.ext
  match a with
  | 0 => rfl

theorem binCnt_at (K : S10x2097152.Idx → BitVec 1) (b : Fin 10) :
    binCnt (F := Ideal) K (ix1 b) = ∑ n : Fin 2097152, if K (ix2 b n) = 1#1 then (1 : EReal) else 0 := by
  delta binCnt
  beta_reduce
  refine (count_along reducesTo_S10x2097152_S10_d1 red2 h_S_ K (constantI S_ 32 0#32) rfl (ix1 b) (show 2097152 < 2147483648 by decide)).trans ?_
  refine Finset.sum_congr rfl fun n _ => ?_
  exact congrArg (fun i => if K i = 1#1 then (1 : EReal) else 0) (lift2_at b n)

/-- The pixels of a bin that are right. -/
def right (K : S10x2097152.Idx → BitVec 1) (H : S2097152.Idx → BitVec 1) : S10x2097152.Idx → BitVec 1 :=
  andi K ((broadcastInDim S10x2097152 ![0, 1] bcast_S1x2097152_S10x2097152_0_1) ((broadcastInDim S1x2097152 ![1] bcast_S2097152_S1x2097152_1) H))

theorem binHit_eq (K : S10x2097152.Idx → BitVec 1) (H : S2097152.Idx → BitVec 1) : binHit (F := Ideal) K H = binCnt (F := Ideal) (right K H) := by
  delta binHit binCnt right
  rfl

theorem binHit_at (K : S10x2097152.Idx → BitVec 1) (H : S2097152.Idx → BitVec 1) (b : Fin 10) :
    binHit (F := Ideal) K H (ix1 b) = ∑ n : Fin 2097152, if K (ix2 b n) = 1#1 ∧ H (ix1 n) = 1#1 then (1 : EReal) else 0 := by
  have hand : ∀ x y : BitVec 1, IntOp.andi x y = 1#1 ↔ x = 1#1 ∧ y = 1#1 := by decide
  rw [binHit_eq, binCnt_at]
  refine Finset.sum_congr rfl fun n _ => ?_
  show (if IntOp.andi (K (ix2 b n)) (H _) = 1#1 then (1 : EReal) else 0) = _
  have hi : ∀ i : S2097152.Idx, (i 0).val = n.val → i = ix1 n := fun i h => by
    funext a
    apply Fin.ext
    match a with
    | 0 => exact h
  refine (if_congr (hand _ _) rfl rfl).trans ?_
  refine congrArg (fun i => if K (ix2 b n) = 1#1 ∧ H i = 1#1 then (1 : EReal) else 0) (hi _ rfl)

/-! ## The weighted error -/

/-- A bin's entry, by its number. -/
def entry (f : S10.Idx → EReal) (b : ℕ) : EReal := if h : b < 10 then f (ix1 ⟨b, h⟩) else 0

theorem entry_at (f : S10.Idx → EReal) (b : Fin 10) : entry f b.val = f (ix1 b) := by rw [entry, dif_pos b.isLt]

theorem total_at (f : S10.Idx → EReal) (j : S_.Idx) :
    Host.reduceAdd (F := Ideal) (φ := .f32) f (constant (F := Ideal) S_ .f32 0x00000000#32) reducesTo_S10_S_d0 h_S_ j = Cal.ten (entry f) := by
  refine (Ideal.hostReduceAdd_total reducesTo_S10_S_d0 (fun b => b.elim0) f (Ideal.ofBits .f32 0x00000000#32) j).trans ?_
  rw [Ideal.ofBits_zero_f32, zero_add]
  have hs : (∑ k : Fin 10, f (ix1 k)) = Cal.ten (entry f) := by
    have : (∑ k : Fin 10, f (ix1 k)) = ∑ b ∈ Finset.range 10, entry f b := by
      rw [Finset.sum_range]
      exact Finset.sum_congr rfl fun k _ => (entry_at f k).symm
    rw [this]
    simp only [Finset.sum_range_succ, Finset.sum_range_zero, zero_add]
    rfl
  rw [← hs]
  have hi : ∀ i : S10.Idx, ix1 (i 0) = i := fun i => by
    funext a
    apply Fin.ext
    match a with
    | 0 => rfl
  exact Fintype.sum_equiv ⟨fun i : S10.Idx => i 0, fun k : Fin 10 => ix1 k, hi, fun _ => rfl⟩ _ _ fun i => congrArg f (hi i).symm

theorem errOf_eq (S N H : S10.Idx → EReal) : errOf (F := Ideal) S N H = fun _ => Cal.calib (entry S) (entry N) (entry H) := by
  funext j
  delta errOf
  beta_reduce
  rw [total_at]
  refine Cal.ten_congr fun b hb => ?_
  have e : ∀ f : S10.Idx → EReal, entry f b = f (ix1 ⟨b, hb⟩) := fun f => by rw [entry, dif_pos hb]
  rw [e, e S, e N, e H]
  exact congrArg (fun x : EReal => Cal.gap (S (ix1 ⟨b, hb⟩)) (N (ix1 ⟨b, hb⟩)) (H (ix1 ⟨b, hb⟩))
    * Cal.gap (S (ix1 ⟨b, hb⟩)) (N (ix1 ⟨b, hb⟩)) (H (ix1 ⟨b, hb⟩)) * Ideal.div (N (ix1 ⟨b, hb⟩)) x) (total_at N _)

/-! ## The bounds -/

theorem bits_ten : Ideal.ofBits .f32 0x41200000#32 = ((10 : ℝ) : EReal) := by
  simp [Ideal.ofBits, Ideal.ieee, -EReal.coe_mul]
  norm_num

/-- The first ten bounds, as the program spells them. -/
theorem lin_at (n : ℕ) (hn : n < 10) : bound (lin (F := Ideal)) n
    = Ideal.ofBits .f32 0x00000000#32 * (Ideal.ofBits .f32 0x3F800000#32 - Ideal.div (((BitVec.ofNat 32 n).toInt : ℝ) : EReal) (Ideal.ofBits .f32 0x41200000#32))
      + Ideal.ofBits .f32 0x3F800000#32 * Ideal.div (((BitVec.ofNat 32 n).toInt : ℝ) : EReal) (Ideal.ofBits .f32 0x41200000#32) := by
  rw [bound, dif_pos (by omega)]
  delta lin
  beta_reduce
  refine (concatenate_pair_apply_left (t := S11) (s₁ := S10) (s₂ := S1) 0 _ _ concatenates_S10_S1_S11_d0 (ix1 ⟨n, by omega⟩) rfl (ix1 ⟨n, hn⟩) ?_).trans ?_
  · intro b
    match b with
    | 0 => rfl
  · rfl

/-- The last bound. -/
theorem lin_last : bound (lin (F := Ideal)) 10 = 1 := by
  rw [bound, dif_pos (by omega)]
  delta lin
  beta_reduce
  refine (concatenate_pair_apply_right (t := S11) (s₁ := S10) (s₂ := S1) 0 _ _ concatenates_S10_S1_S11_d0 (ix1 ⟨10, by omega⟩) rfl rfl (ix1 ⟨0, by omega⟩) ?_ ?_).trans ?_
  · intro b hb
    match b with
    | 0 => exact absurd rfl hb
  · rfl
  · exact Ideal.ofBits_one_f32

/-- The first ten bounds are the tenths. -/
theorem lin_tenth (n : ℕ) (hn : n < 10) : bound (lin (F := Ideal)) n = (((n : ℝ) / 10 : ℝ) : EReal) := by
  have ht : (BitVec.ofNat 32 n).toInt = (n : ℤ) := by
    have hm : (BitVec.ofNat 32 n).toNat = n := by rw [BitVec.toNat_ofNat, Nat.mod_eq_of_lt (by omega)]
    rw [BitVec.toInt_eq_toNat_of_lt (by omega), hm]
  rw [lin_at n hn, ht, bits_ten, Ideal.ofBits_zero_f32, Ideal.ofBits_one_f32, zero_mul, one_mul, zero_add, div_coe _ _ (by norm_num)]
  simp

theorem lin_rises (n : ℕ) (hn : n < 10) : bound (lin (F := Ideal)) n ≤ bound (lin (F := Ideal)) (n + 1) := by
  rcases Nat.lt_or_ge (n + 1) 10 with h | h
  · rw [lin_tenth n hn, lin_tenth (n + 1) h]
    refine EReal.coe_le_coe_iff.2 ?_
    push_cast
    linarith
  · obtain rfl : n = 9 := by omega
    rw [lin_tenth 9 hn, lin_last, ← EReal.coe_one]
    refine EReal.coe_le_coe_iff.2 ?_
    norm_num

theorem lin_first : bound (lin (F := Ideal)) 0 = 0 := by
  rw [lin_tenth 0 (by omega)]
  simp

end Cert.Proof.Ref

end
-- ==== Proof.PixelOnIdeal.lean ====
/-
  The dense kernel at one pixel, on exact numbers: the running maximum and its place over the nineteen channels, the sum of
  the exponentials, the confidence and the packed bin number.
-/
module

public import proofs.«01_k».proof.Proof.MainOnIdeal
public import proofs.«01_k».proof.Proof.Pixel
public import Idealize.ShloMosaic.Lib.Pipeline.ValueKit
public import Idealize.ShloMosaic.Lib.IdealHost

@[expose] public section

set_option maxRecDepth 16384

noncomputable section

namespace Cert.Proof.OnIdeal
open Cert.KernelIdeal Cert.KernelIdeal.Gen Cert.Proof.Pixel
open Idealize.ShloMosaic Idealize.ShloMosaic.TcCoe
open scoped BigOperators

/-! ## One step of each running value -/

theorem top_step (v : ℕ → EReal) (n : ℕ) (a b : EReal) (ha : a = v (n + 1)) (hb : b = topTo v n) :
    Scalar.select (Ideal.cmp .ogt a b) a b = topTo v (n + 1) := by
  subst ha hb; rfl

theorem arg_step (v : ℕ → EReal) (n : ℕ) (a b : EReal) (w : BitVec 32) (ha : a = v (n + 1)) (hb : b = topTo v n) (hw : w = argTo v n) :
    Scalar.select (Ideal.cmp .ogt a b) (BitVec.ofNat 32 (n + 1)) w = argTo v (n + 1) := by
  subst ha hb hw; rfl

theorem sum_step (v : ℕ → EReal) (M : EReal) (n : ℕ) (s a b : EReal) (hs : s = sumTo (fun c => Ideal.exp (v c - M)) n)
    (ha : a = v (n + 1)) (hb : b = M) : s + Ideal.exp (a - b) = sumTo (fun c => Ideal.exp (v c - M)) (n + 1) := by
  subst hs ha hb; rfl

theorem sum_first (v : ℕ → EReal) (M : EReal) (a b : EReal) (ha : a = v 0) (hb : b = M) :
    Ideal.exp (a - b) = sumTo (fun c => Ideal.exp (v c - M)) 0 := by
  subst ha hb; rfl

/-! ## A block's place -/

/-- The logits of one place of a block, by channel. -/
def logitB (X : S1x19x128x512.Idx → EReal) (i : S128x512.Idx) (c : ℕ) : EReal := if h : c < 19 then X (ix4 0 ⟨c, h⟩ (i 0) (i 1)) else 0

variable (X : S1x19x128x512.Idx → EReal) (i : S128x512.Idx)

theorem cast_apply (c : ℕ) (hc : c < 19) (inb) :
    shapeCast S128x512 (chan (F := Ideal) X c inb) shapeCasts_S1x1x128x512_S128x512 i = logitB X i c := by
  rw [logitB, dif_pos hc, shapeCast_apply (chan (F := Ideal) X c inb) shapeCasts_S1x1x128x512_S128x512 i (ix4 0 0 (i 0) (i 1))
    (by
      rw [Shape.rowMajor_val_two, Shape.rowMajor_val_four]
      simp)]
  show X _ = X _
  congr 1
  funext a
  apply Fin.ext
  match a with
  | 0 => rfl
  | 1 => show c + 1 * 0 = c; omega
  | 2 => show 0 + 1 * (i 0).val = (i 0).val; omega
  | 3 => show 0 + 1 * (i 1).val = (i 1).val; omega

theorem max4_at : max4 (F := Ideal) X i = topTo (logitB X i) 4 :=
  top_step _ 3 _ _ (cast_apply X i 4 (by decide) _) <|
  top_step _ 2 _ _ (cast_apply X i 3 (by decide) _) <|
  top_step _ 1 _ _ (cast_apply X i 2 (by decide) _) <|
  top_step _ 0 _ _ (cast_apply X i 1 (by decide) _) <|
  cast_apply X i 0 (by decide) _

theorem max10_at : max10 (F := Ideal) X i = topTo (logitB X i) 10 :=
  top_step _ 9 _ _ (cast_apply X i 10 (by decide) _) <|
  top_step _ 8 _ _ (cast_apply X i 9 (by decide) _) <|
  top_step _ 7 _ _ (cast_apply X i 8 (by decide) _) <|
  top_step _ 6 _ _ (cast_apply X i 7 (by decide) _) <|
  top_step _ 5 _ _ (cast_apply X i 6 (by decide) _) <|
  top_step _ 4 _ _ (cast_apply X i 5 (by decide) _) <|
  max4_at X i

theorem max15_at : max15 (F := Ideal) X i = topTo (logitB X i) 15 :=
  top_step _ 14 _ _ (cast_apply X i 15 (by decide) _) <|
  top_step _ 13 _ _ (cast_apply X i 14 (by decide) _) <|
  top_step _ 12 _ _ (cast_apply X i 13 (by decide) _) <|
  top_step _ 11 _ _ (cast_apply X i 12 (by decide) _) <|
  top_step _ 10 _ _ (cast_apply X i 11 (by decide) _) <|
  max10_at X i

theorem max18_at : max18 (F := Ideal) X i = topTo (logitB X i) 18 :=
  top_step _ 17 _ _ (cast_apply X i 18 (by decide) _) <|
  top_step _ 16 _ _ (cast_apply X i 17 (by decide) _) <|
  top_step _ 15 _ _ (cast_apply X i 16 (by decide) _) <|
  max15_at X i

theorem arg4_at : arg4 (F := Ideal) X i = argTo (logitB X i) 4 :=
  arg_step _ 3 _ _ _ (cast_apply X i 4 (by decide) _) (top_step _ 2 _ _ (cast_apply X i 3 (by decide) _) (top_step _ 1 _ _ (cast_apply X i 2 (by decide) _) (top_step _ 0 _ _ (cast_apply X i 1 (by decide) _) (cast_apply X i 0 (by decide) _)))) <|
  arg_step _ 2 _ _ _ (cast_apply X i 3 (by decide) _) (top_step _ 1 _ _ (cast_apply X i 2 (by decide) _) (top_step _ 0 _ _ (cast_apply X i 1 (by decide) _) (cast_apply X i 0 (by decide) _))) <|
  arg_step _ 1 _ _ _ (cast_apply X i 2 (by decide) _) (top_step _ 0 _ _ (cast_apply X i 1 (by decide) _) (cast_apply X i 0 (by decide) _)) <|
  arg_step _ 0 _ _ _ (cast_apply X i 1 (by decide) _) (cast_apply X i 0 (by decide) _) <|
  rfl

theorem arg10_at : arg10 (F := Ideal) X i = argTo (logitB X i) 10 :=
  arg_step _ 9 _ _ _ (cast_apply X i 10 (by decide) _) (top_step _ 8 _ _ (cast_apply X i 9 (by decide) _) (top_step _ 7 _ _ (cast_apply X i 8 (by decide) _) (top_step _ 6 _ _ (cast_apply X i 7 (by decide) _) (top_step _ 5 _ _ (cast_apply X i 6 (by decide) _) (top_step _ 4 _ _ (cast_apply X i 5 (by decide) _) (max4_at X i)))))) <|
  arg_step _ 8 _ _ _ (cast_apply X i 9 (by decide) _) (top_step _ 7 _ _ (cast_apply X i 8 (by decide) _) (top_step _ 6 _ _ (cast_apply X i 7 (by decide) _) (top_step _ 5 _ _ (cast_apply X i 6 (by decide) _) (top_step _ 4 _ _ (cast_apply X i 5 (by decide) _) (max4_at X i))))) <|
  arg_step _ 7 _ _ _ (cast_apply X i 8 (by decide) _) (top_step _ 6 _ _ (cast_apply X i 7 (by decide) _) (top_step _ 5 _ _ (cast_apply X i 6 (by decide) _) (top_step _ 4 _ _ (cast_apply X i 5 (by decide) _) (max4_at X i)))) <|
  arg_step _ 6 _ _ _ (cast_apply X i 7 (by decide) _) (top_step _ 5 _ _ (cast_apply X i 6 (by decide) _) (top_step _ 4 _ _ (cast_apply X i 5 (by decide) _) (max4_at X i))) <|
  arg_step _ 5 _ _ _ (cast_apply X i 6 (by decide) _) (top_step _ 4 _ _ (cast_apply X i 5 (by decide) _) (max4_at X i)) <|
  arg_step _ 4 _ _ _ (cast_apply X i 5 (by decide) _) (max4_at X i) <|
  arg4_at X i

theorem arg15_at : arg15 (F := Ideal) X i = argTo (logitB X i) 15 :=
  arg_step _ 14 _ _ _ (cast_apply X i 15 (by decide) _) (top_step _ 13 _ _ (cast_apply X i 14 (by decide) _) (top_step _ 12 _ _ (cast_apply X i 13 (by decide) _) (top_step _ 11 _ _ (cast_apply X i 12 (by decide) _) (top_step _ 10 _ _ (cast_apply X i 11 (by decide) _) (max10_at X i))))) <|
  arg_step _ 13 _ _ _ (cast_apply X i 14 (by decide) _) (top_step _ 12 _ _ (cast_apply X i 13 (by decide) _) (top_step _ 11 _ _ (cast_apply X i 12 (by decide) _) (top_step _ 10 _ _ (cast_apply X i 11 (by decide) _) (max10_at X i)))) <|
  arg_step _ 12 _ _ _ (cast_apply X i 13 (by decide) _) (top_step _ 11 _ _ (cast_apply X i 12 (by decide) _) (top_step _ 10 _ _ (cast_apply X i 11 (by decide) _) (max10_at X i))) <|
  arg_step _ 11 _ _ _ (cast_apply X i 12 (by decide) _) (top_step _ 10 _ _ (cast_apply X i 11 (by decide) _) (max10_at X i)) <|
  arg_step _ 10 _ _ _ (cast_apply X i 11 (by decide) _) (max10_at X i) <|
  arg10_at X i

theorem arg18_at : arg18 (F := Ideal) X i = argTo (logitB X i) 18 :=
  arg_step _ 17 _ _ _ (cast_apply X i 18 (by decide) _) (top_step _ 16 _ _ (cast_apply X i 17 (by decide) _) (top_step _ 15 _ _ (cast_apply X i 16 (by decide) _) (max15_at X i))) <|
  arg_step _ 16 _ _ _ (cast_apply X i 17 (by decide) _) (top_step _ 15 _ _ (cast_apply X i 16 (by decide) _) (max15_at X i)) <|
  arg_step _ 15 _ _ _ (cast_apply X i 16 (by decide) _) (max15_at X i) <|
  arg15_at X i

theorem sum3_at : sum3 (F := Ideal) X i = sumTo (fun c => Ideal.exp (logitB X i c - topTo (logitB X i) 18)) 3 :=
  (sum_step _ _ 2 _ _ _ · (cast_apply X i 3 (by decide) _) (max18_at X i)) <|
  (sum_step _ _ 1 _ _ _ · (cast_apply X i 2 (by decide) _) (max18_at X i)) <|
  (sum_step _ _ 0 _ _ _ · (cast_apply X i 1 (by decide) _) (max18_at X i)) <|
  sum_first _ _ _ _ (cast_apply X i 0 (by decide) _) (max18_at X i)

theorem sum10_at : sum10 (F := Ideal) X i = sumTo (fun c => Ideal.exp (logitB X i c - topTo (logitB X i) 18)) 10 :=
  (sum_step _ _ 9 _ _ _ · (cast_apply X i 10 (by decide) _) (max18_at X i)) <|
  (sum_step _ _ 8 _ _ _ · (cast_apply X i 9 (by decide) _) (max18_at X i)) <|
  (sum_step _ _ 7 _ _ _ · (cast_apply X i 8 (by decide) _) (max18_at X i)) <|
  (sum_step _ _ 6 _ _ _ · (cast_apply X i 7 (by decide) _) (max18_at X i)) <|
  (sum_step _ _ 5 _ _ _ · (cast_apply X i 6 (by decide) _) (max18_at X i)) <|
  (sum_step _ _ 4 _ _ _ · (cast_apply X i 5 (by decide) _) (max18_at X i)) <|
  (sum_step _ _ 3 _ _ _ · (cast_apply X i 4 (by decide) _) (max18_at X i)) <|
  sum3_at X i

theorem sum16_at : sum16 (F := Ideal) X i = sumTo (fun c => Ideal.exp (logitB X i c - topTo (logitB X i) 18)) 16 :=
  (sum_step _ _ 15 _ _ _ · (cast_apply X i 16 (by decide) _) (max18_at X i)) <|
  (sum_step _ _ 14 _ _ _ · (cast_apply X i 15 (by decide) _) (max18_at X i)) <|
  (sum_step _ _ 13 _ _ _ · (cast_apply X i 14 (by decide) _) (max18_at X i)) <|
  (sum_step _ _ 12 _ _ _ · (cast_apply X i 13 (by decide) _) (max18_at X i)) <|
  (sum_step _ _ 11 _ _ _ · (cast_apply X i 12 (by decide) _) (max18_at X i)) <|
  (sum_step _ _ 10 _ _ _ · (cast_apply X i 11 (by decide) _) (max18_at X i)) <|
  sum10_at X i

/-- The confidence: one over the sum of the exponentials. -/
theorem psv_at : psv (F := Ideal) X i = Ideal.div 1 (sumTo (fun c => Ideal.exp (logitB X i c - topTo (logitB X i) 18)) 18) := by
  show Ideal.div (Ideal.ofBits .f32 0x3F800000#32) _ = _
  rw [Ideal.ofBits_one_f32]
  refine congrArg (Ideal.div 1) ?_
  exact (sum_step _ _ 17 _ _ _ · (cast_apply X i 18 (by decide) _) (max18_at X i)) <|
    (sum_step _ _ 16 _ _ _ · (cast_apply X i 17 (by decide) _) (max18_at X i)) <| sum16_at X i

/-! ## A block's key -/

theorem bnd_at (B : S11.Idx → EReal) (n : ℕ) (hn : n < 11) (inb) : bnd (F := Ideal) B n inb = bound B n := by
  rw [bound, dif_pos hn]
  show B _ = B _
  congr 1
  funext a
  apply Fin.ext
  match a with
  | 0 => rfl

theorem above_nat (p q : EReal) : (above (F := Ideal) p q).toNat = if q < p then 1 else 0 := by
  show ((BitVec.ofBool (decide (q < p))).setWidth 32).toNat = _
  by_cases h : q < p <;> simp [h]

theorem same_nat (a t : BitVec 32) : ((IntOp.cmpi .eq a t).setWidth 32).toNat = if a = t then 1 else 0 := by
  show ((BitVec.ofBool (a == t)).setWidth 32).toNat = _
  by_cases h : a = t
  · subst h; simp
  · rw [if_neg h, beq_eq_false_iff_ne.2 h]; rfl

/-- The packed bin number: twice the number of inner bounds below the confidence, and one more where the classes agree. -/
theorem keyOf_nat (p : EReal) (B : ℕ → EReal) (a t : BitVec 32) :
    (keyOf (F := Ideal) p (B 1) (B 2) (B 3) (B 4) (B 5) (B 6) (B 7) (B 8) (B 9) a t).toNat
      = 2 * (mark B p 1 + mark B p 2 + mark B p 3 + mark B p 4 + mark B p 5 + mark B p 6 + mark B p 7 + mark B p 8 + mark B p 9)
        + (if a = t then 1 else 0) := by
  have hm : ∀ n, (above (F := Ideal) p (B n)).toNat = mark B p n := fun n => above_nat p (B n)
  have hl : ∀ n, mark B p n ≤ 1 := fun n => by unfold mark; split <;> omega
  have h1 := hl 1; have h2 := hl 2; have h3 := hl 3; have h4 := hl 4; have h5 := hl 5
  have h6 := hl 6; have h7 := hl 7; have h8 := hl 8; have h9 := hl 9
  have hs : (if a = t then 1 else 0) ≤ 1 := by split <;> omega
  unfold keyOf
  simp only [BitVec.toNat_add, BitVec.toNat_mul, BitVec.toNat_ofNat, hm, same_nat]
  omega

/-! ## Of the whole image -/

section Image

variable (V : (c : Dev nD) → (r : Ref sig .tc) → Buf (Elt Ideal) ((c : Thread nD τ).loc r))

/-- A pixel's logits in its block are the image's. -/
theorem blkX_at (d : Dev nD) (j : S8x512x512.Idx) : logitB (blkX V d (pointOf j)) (flat (placeOf j)) = logit (V d main_arg0) j := by
  funext c
  unfold logitB logit
  split
  · rename_i h
    show V d main_arg0 _ = V d main_arg0 _
    have h0 : (j 0).val < 8 := (j 0).isLt
    have h1 : (j 1).val < 512 := (j 1).isLt
    have hp : (pointOf j).val = 4 * (j 0).val + (j 1).val / 128 := rfl
    have f0 : (flat (placeOf j) 0).val = (j 1).val % 128 := rfl
    have f1 : (flat (placeOf j) 1).val = (j 2).val := rfl
    blk_ext [index1, hp, f0, f1]
  · rfl

/-- The bounds that a block reads are the image's. -/
theorem blkB_at (d : Dev nD) (t : Fin cfg0.N) : bound (blkB V d t) = bound (V d main_v0) := by
  funext n
  unfold bound
  split
  · show V d main_v0 _ = V d main_v0 _
    have h0 : ∀ t : Fin cfg0.N, win0_0.index t = ![0] := fun _ => rfl
    blk_ext [h0]
  · rfl

/-- A pixel's label in its block is the image's. -/
theorem blkT_at (d : Dev nD) (j : S8x512x512.Idx) :
    shapeCast S128x512 (tgt (F := Ideal) (blkT V d (pointOf j))) shapeCasts_S1x128x512_S128x512 (flat (placeOf j)) = V d main_arg1 j := by
  rw [shapeCast_apply (tgt (F := Ideal) (blkT V d (pointOf j))) shapeCasts_S1x128x512_S128x512 (flat (placeOf j)) (placeOf j)
    (by
      rw [Shape.rowMajor_val_two, Shape.rowMajor_val_three]
      show ((0 : ℕ) * (128) + ((j 1).val % 128)) * 512 + (j 2).val = ((j 1).val % 128) * 512 + (j 2).val
      omega)]
  show V d main_arg1 _ = V d main_arg1 _
  have h0 : (j 0).val < 8 := (j 0).isLt
  have h1 : (j 1).val < 512 := (j 1).isLt
  have hp : (pointOf j).val = 4 * (j 0).val + (j 1).val / 128 := rfl
  have f1 : ((Rect.unit (s := S1x128x512) ![0, 0, 0] S1x128x512.size inb_S1x128x512_S1x128x512_0_0_0).idx (placeOf j) 1).val = (j 1).val % 128 := by
    show 0 + 1 * ((j 1).val % 128) = _
    omega
  have f2 : ((Rect.unit (s := S1x128x512) ![0, 0, 0] S1x128x512.size inb_S1x128x512_S1x128x512_0_0_0).idx (placeOf j) 2).val = (j 2).val := by
    show 0 + 1 * (j 2).val = _
    omega
  blk_ext [index2, hp]
  · refine (congrArg (_ + ·) f1).trans ?_
    omega

/-- A pixel with finite logits: the confidence is the softmax's greatest entry. -/
theorem psAt_soft (d : Dev nD) (j : S8x512x512.Idx) (x : ℕ → ℝ) (hx : ∀ c, c < 19 → logit (V d main_arg0) j c = (x c : EReal)) :
    psAt V d j = ((soft x (argTo (logit (V d main_arg0) j) 18).toNat (argTo (logit (V d main_arg0) j) 18).toNat : ℝ) : EReal) := by
  obtain ⟨hf, ht⟩ := argTo_first (logit (V d main_arg0) j) 18 (by decide)
  unfold psAt
  rw [psBlk_eq, psv_at, blkX_at, ht, sumTo_exp _ x _ hx hf.lt, soft_top, ← EReal.coe_one,
    div_coe _ _ (lt_of_lt_of_le one_pos (expSum_ge x _ hf.lt))]

/-- A pixel's key. -/
theorem keyAt_nat (d : Dev nD) (j : S8x512x512.Idx) :
    (keyAt V d j).toNat = 2 * (mark (bound (V d main_v0)) (psAt V d j) 1 + mark (bound (V d main_v0)) (psAt V d j) 2 + mark (bound (V d main_v0)) (psAt V d j) 3
        + mark (bound (V d main_v0)) (psAt V d j) 4 + mark (bound (V d main_v0)) (psAt V d j) 5 + mark (bound (V d main_v0)) (psAt V d j) 6
        + mark (bound (V d main_v0)) (psAt V d j) 7 + mark (bound (V d main_v0)) (psAt V d j) 8 + mark (bound (V d main_v0)) (psAt V d j) 9)
      + (if argTo (logit (V d main_arg0) j) 18 = V d main_arg1 j then 1 else 0) := by
  unfold keyAt
  rw [keyBlk_eq, blkT_at, arg18_at, blkX_at, bnd_at _ 1 (by decide), bnd_at _ 2 (by decide), bnd_at _ 3 (by decide), bnd_at _ 4 (by decide),
    bnd_at _ 5 (by decide), bnd_at _ 6 (by decide), bnd_at _ 7 (by decide), bnd_at _ 8 (by decide), bnd_at _ 9 (by decide), blkB_at]
  rw [keyOf_nat]
  unfold psAt
  rw [psBlk_eq]

end Image

end Cert.Proof.OnIdeal

end
-- ==== Proof.TablesOnIdeal.lean ====
/-
  The kernel's result in extended reals, from the two lines that its first pipeline leaves: the calibration error of the
  ten summed confidences and the twenty counts, each one sum over all the pixels.
-/
module

public import proofs.«01_k».proof.Proof.Calibration
public import proofs.«01_k».proof.Proof.Sums
public import proofs.«01_k».proof.Proof.MainOnIdeal

@[expose] public section

set_option maxRecDepth 16384

noncomputable section

namespace Cert.Proof.OnIdeal

open Cert.KernelIdeal Cert.KernelIdeal.Gen Cert.Proof.Tally Cert.Proof.Lanes
open Idealize.ShloMosaic
open Idealize.ShloMosaic.TcCoe Idealize.ShloMosaic.Tactic
open Idealize.ShloMosaic.SparseCore.Cfg (HIx)
open Idealize.ShloMosaic.Pipeline (Dat Cfg Window BodyObligation cellOf)
open scoped BigOperators

section Block
variable {F : FTy → Type} [FloatOps F]
variable (V : (c : Dev nD) → (r : Ref sig .tc) → Buf (Elt F) ((c : Thread nD τ).loc r))
variable (b : ℕ) (O : Dev nD → CellTallies nD τ sig (HIx 1))

theorem place0 : ∀ t : Fin cfg2.N, win2_0.index t = ![0, 0, 0] := by
  exact (by decide +kernel : ∀ t : Fin grid2.N, win2_0.index t = ![0, 0, 0])
theorem place1 : ∀ t : Fin cfg2.N, win2_1.index t = ![0, 0, 0] := by
  exact (by decide +kernel : ∀ t : Fin grid2.N, win2_1.index t = ![0, 0, 0])
theorem place2 : ∀ t : Fin cfg2.N, win2_2.index t = ![0, 0] := by
  exact (by decide +kernel : ∀ t : Fin grid2.N, win2_2.index t = ![0, 0])

/-- The last pipeline's blocks are its whole arrays. -/
theorem blkC_eq (c : Dev nD) : blkC V c = V c main_v5 := by
  funext y
  unfold blkC
  blk_ext [place0]
theorem blkN_eq (c : Dev nD) : blkN V c = V c main_v6 := by
  funext y
  unfold blkN
  blk_ext [place1]

/-- The one cell it leaves. -/
theorem errArr_eq (c : Dev nD) : errArr V b O c = fun _ => errv (V c main_v5) (V c main_v6) := by
  unfold errArr
  refine (dat2 V b O c).arrAt_eq_of_cover 2 (fun _ => errv (V c main_v5) (V c main_v6)) (fun t _ => ?_) (fun j => ⟨t2_0, by decide, ?_⟩)
  · funext y
    show errv (blkC V c) (blkN V c) = _
    rw [blkC_eq, blkN_eq]
    rfl
  · have h0 : (j 0).val < 1 := (j 0).isLt
    have h1 : (j 1).val < 1 := (j 1).isLt
    mem_blk [place2]
    refine ⟨⟨?_, ?_⟩, ?_, ?_⟩ <;> omega
end Block

variable (m : (ℓ : Loc nD τ sig) → Buf (Elt Ideal) ℓ)

/-- The tables, laid out by tile, row and lane. -/
theorem W5_v5 (d : Dev nD) : (W5 m d main_v5 : S32x10x16.Idx → EReal) = shapeCast S32x10x16 (confRes (F := Ideal) (psL m d) (keyL m d)) shapeCasts_S32x160_S32x10x16 := by
  unfold W5
  rw [StableHlo.after_cons, StableHlo.after_cons, StableHlo.after_nil, StableHlo.reshape_result_ne (h := by decide), StableHlo.reshape_result', W4_v4_0]
  rfl
theorem W5_v6 (d : Dev nD) : (W5 m d main_v6 : S32x20x16.Idx → EReal) = shapeCast S32x20x16 (cntRes (F := Ideal) (keyL m d)) shapeCasts_S32x320_S32x20x16 := by
  unfold W5
  rw [StableHlo.after_cons, StableHlo.after_cons, StableHlo.after_nil, StableHlo.reshape_result', StableHlo.reshape_result_ne (h := by decide), W4_v4_1]
  rfl

/-- The sum of the confidences of bin `b`. -/
def confSum (ps : S2097152.Idx → EReal) (key : S2097152.Idx → BitVec 32) (b : ℕ) : EReal :=
  ∑ n ∈ Finset.range 2097152, if (at1 key n).toNat / 2 = b then at1 ps n else 0
/-- How many pixels have the key `r`. -/
def keyCount (key : S2097152.Idx → BitVec 32) (r : ℕ) : EReal :=
  ∑ n ∈ Finset.range 2097152, if (at1 key n).toNat = r then 1 else 0

theorem rowC_eq (ps : S2097152.Idx → EReal) (key : S2097152.Idx → BitVec 32) (b : ℕ) (hb : b < 10) :
    Cal.rowC (shapeCast S32x10x16 (confRes (F := Ideal) ps key) shapeCasts_S32x160_S32x10x16) b = confSum ps key b := by
  rw [Cal.rowC, dif_pos hb, confSum, ← sum_pixels]
  refine Finset.sum_congr rfl fun k _ => Finset.sum_congr rfl fun w _ => ?_
  have e : shapeCast S32x10x16 (confRes (F := Ideal) ps key) shapeCasts_S32x160_S32x10x16 (ix3 w ⟨b, hb⟩ k)
      = confRes (F := Ideal) ps key (ix2 w ⟨16 * b + k.val, by have := k.isLt; omega⟩) :=
    shapeCast_apply _ _ _ _ (by
        rw [Shape.rowMajor_val_two, Shape.rowMajor_val_three]
        show w.val * (160) + (16 * b + k.val) = (w.val * (10) + b) * 16 + k.val
        omega)
  rw [e]
  show confAt (F := Ideal) ps key (65536 * w.val) 4096 _ = _
  rw [confAt_sum]
  have h1 : (16 * b + k.val) % 16 = k.val := by have := k.isLt; omega
  have h2 : (16 * b + k.val) / 16 = b := by have := k.isLt; omega
  refine Finset.sum_congr rfl fun n _ => ?_
  show (if (at1 key (65536 * w.val + 16 * n + (16 * b + k.val) % 16)).toNat / 2 = (16 * b + k.val) / 16
    then at1 ps (65536 * w.val + 16 * n + (16 * b + k.val) % 16) else 0) = _
  rw [h1, h2]

theorem rowN_eq (key : S2097152.Idx → BitVec 32) (b : ℕ) (hb : b < 20) :
    Cal.rowN (shapeCast S32x20x16 (cntRes (F := Ideal) key) shapeCasts_S32x320_S32x20x16) b = keyCount key b := by
  rw [Cal.rowN, dif_pos hb, keyCount, ← sum_pixels]
  refine Finset.sum_congr rfl fun k _ => Finset.sum_congr rfl fun w _ => ?_
  have e : shapeCast S32x20x16 (cntRes (F := Ideal) key) shapeCasts_S32x320_S32x20x16 (ix3 w ⟨b, hb⟩ k)
      = cntRes (F := Ideal) key (ix2 w ⟨16 * b + k.val, by have := k.isLt; omega⟩) :=
    shapeCast_apply _ _ _ _ (by
        rw [Shape.rowMajor_val_two, Shape.rowMajor_val_three]
        show w.val * (320) + (16 * b + k.val) = (w.val * (20) + b) * 16 + k.val
        omega)
  rw [e]
  show cntAt (F := Ideal) key (65536 * w.val) 4096 _ = _
  rw [cntAt_sum]
  have h1 : (16 * b + k.val) % 16 = k.val := by have := k.isLt; omega
  have h2 : (16 * b + k.val) / 16 = b := by have := k.isLt; omega
  refine Finset.sum_congr rfl fun n _ => ?_
  show (if (at1 key (65536 * w.val + 16 * n + (16 * b + k.val) % 16)).toNat = (16 * b + k.val) / 16 then (1 : EReal) else 0) = _
  rw [h1, h2]

/-- The kernel's result, from the two lines. -/
theorem W7_v8 (d : Dev nD) : (W7 m d main_v8 : S_.Idx → EReal) = fun _ => Cal.calib (confSum (psL m d) (keyL m d))
    (fun b => keyCount (keyL m d) (2 * b) + keyCount (keyL m d) (2 * b + 1)) (fun b => keyCount (keyL m d) (2 * b + 1)) := by
  unfold W7
  rw [StableHlo.after_cons, StableHlo.after_nil, StableHlo.reshape_result', W6_v7, errArr_eq]
  funext j
  show errv (F := Ideal) (W5 m d main_v5) (W5 m d main_v6) = _
  rw [Cal.errv_eq, W5_v5, W5_v6]
  refine Cal.calib_congr (fun b hb => ?_) (fun b hb => ?_) fun b hb => ?_
  · exact rowC_eq _ _ b hb
  · exact congrArg₂ (fun x y : EReal => x + y) (rowN_eq _ (2 * b) (by omega)) (rowN_eq _ (2 * b + 1) (by omega))
  · exact rowN_eq _ (2 * b + 1) (by omega)

end Cert.Proof.OnIdeal

end
-- ==== Proof.Value.lean ====
/-
  The kernel and the reference end with the same number, on exact numbers and finite logits: pixel by pixel the confidence, the
  bin and the hit agree, so the ten bins' sums and counts do, and so does the weighted error made of them.
-/
module

public import proofs.«01_k».proof.Proof.RefBins
public import proofs.«01_k».proof.Proof.PixelOnIdeal
public import proofs.«01_k».proof.Proof.TablesOnIdeal
public import Idealize.ShloMosaic.Lib.ReduceAll

@[expose] public section

set_option maxRecDepth 16384

noncomputable section

/-- The shape relations that the precondition's operations take. -/
instance Cert.Proof.finiteFacts : Cert.Pre_finite_logits.Facts where
  bcast_S_S8x19x512x512 := by decide +kernel
  reducesTo_S8x19x512x512_S_d0_1_2_3 := by decide +kernel
  h_S_ := by decide +kernel

namespace Cert.Proof.Value
open Cert.Proof.Pixel Cert.Proof.Tally
open Cert.KernelIdeal (nD τ sig main_arg0 main_arg1 main_v0 main_v8)
open Idealize.ShloMosaic Idealize.ShloMosaic.TcCoe Idealize.SL.Sem
open scoped BigOperators

/-! ## Finite logits -/

/-- An array of logits. -/
abbrev Logits : Type := (⟨4, ![8, 19, 512, 512]⟩ : Shape).Idx → EReal
/-- An array of labels. -/
abbrev Labels : Type := (⟨3, ![8, 512, 512]⟩ : Shape).Idx → BitVec 32

theorem bits_top : Ideal.ofBits .f32 0x7F800000#32 = ⊤ := by
  simp [Ideal.ofBits, Ideal.ieee]

/-- A number whose magnitude is below the pattern of infinity is a real one. -/
theorem real_of_below (x : EReal) (h : Ideal.cmp .olt (max x (-x)) (Ideal.ofBits .f32 0x7F800000#32) = 1#1) : x = (x.toReal : EReal) := by
  have hb : max x (-x) < ⊤ := by
    have ht : Ideal.ofBits .f32 0x7F800000#32 = ⊤ := bits_top
    rw [ht] at h
    by_contra hn
    have : Ideal.cmp .olt (max x (-x)) ⊤ = BitVec.ofBool (decide (max x (-x) < ⊤)) := rfl
    rw [this, decide_eq_false hn] at h
    exact absurd h (by decide)
  refine (EReal.coe_toReal (fun e => ?_) fun e => ?_).symm
  · subst e; exact absurd hb (by simp)
  · subst e; exact absurd hb (by simp)

/-- Where the precondition holds every logit is a real number. -/
theorem logits_real (X : Logits) (L : Labels) (h : Cert.Pre_finite_logits.fn (F := Ideal) X L = fun _ => 1#1) (i) : X i = ((X i).toReal : EReal) := by
  have h0 := congrFun h (fun a => a.elim0)
  haveI : Subsingleton Cert.Pre_finite_logits.S_.Idx := ⟨fun a b => funext fun c => c.elim0⟩
  exact real_of_below _ (Host.reduce_andi_all _ _ _ _ _ h0 i)

/-! ## One pixel -/

variable (m : (ℓ : Loc nD τ sig) → Buf (Elt Ideal) ℓ) (d : Dev nD)

/-- The logits of a device, at launch. -/
abbrev lg : Logits := m (d, (main_arg0 : DevRef τ sig))
/-- Its labels. -/
abbrev lb : Labels := m (d, (main_arg1 : DevRef τ sig))
/-- The pixel at a place of the line. -/
abbrev px (n : Fin 2097152) : (⟨3, ![8, 512, 512]⟩ : Shape).Idx :=
  Shape.reshapeEquiv Cert.ReferenceIdeal.Gen.shapeCasts_S8x512x512_S2097152 (ix1 n)

/-- The bounds that the kernel works out are the reference's. -/
theorem bounds_same : (OnIdeal.W1 m d main_v0 : (⟨1, ![11]⟩ : Shape).Idx → EReal) = Ref.lin (F := Ideal) := by
  unfold OnIdeal.W1
  after_results
  rfl

/-- Every logit of the device is a real number. -/
def Real : Prop := ∀ i, lg m d i = ((lg m d i).toReal : EReal)

variable {m d}

/-- A pixel's logits as real numbers. -/
def re (m : (ℓ : Loc nD τ sig) → Buf (Elt Ideal) ℓ) (d : Dev nD) (j : (⟨3, ![8, 512, 512]⟩ : Shape).Idx) (c : ℕ) : ℝ := (logit (lg m d) j c).toReal

theorem re_at (h : Real m d) (j) (c : ℕ) (hc : c < 19) : logit (lg m d) j c = (re m d j c : EReal) := by
  unfold re logit
  rw [dif_pos hc]
  exact h _

/-- The channel of a pixel's greatest logit. -/
abbrev win (m : (ℓ : Loc nD τ sig) → Buf (Elt Ideal) ℓ) (d : Dev nD) (j : (⟨3, ![8, 512, 512]⟩ : Shape).Idx) : BitVec 32 := argTo (logit (lg m d) j) 18

theorem win_first (j) : IsFirst 19 (logit (lg m d) j) (win m d j).toNat := (argTo_first _ 18 (by decide)).1

/-- A pixel's confidence, the same in both. -/
def sure (m : (ℓ : Loc nD τ sig) → Buf (Elt Ideal) ℓ) (d : Dev nD) (j : (⟨3, ![8, 512, 512]⟩ : Shape).Idx) : ℝ :=
  soft (re m d j) (win m d j).toNat (win m d j).toNat

theorem psAt_sure (h : Real m d) (j) : OnIdeal.psAt (OnIdeal.Vw (OnIdeal.W1 m)) d j = (sure m d j : EReal) := by
  have e : OnIdeal.Vw (OnIdeal.W1 m) d main_arg0 = lg m d := OnIdeal.W1_arg0 m d
  have k := OnIdeal.psAt_soft (OnIdeal.Vw (OnIdeal.W1 m)) d j (re m d j) (by rw [e]; exact re_at h j)
  rw [e] at k
  exact k

theorem ps_line (h : Real m d) (n : Fin 2097152) : OnIdeal.psL m d (ix1 n) = (sure m d (px n) : EReal) := by
  rw [OnIdeal.psL_apply, OnIdeal.psArr_eq]
  exact psAt_sure h _

theorem ref_line (h : Real m d) (n : Fin 2097152) :
    Ref.flatMax (F := Ideal) (Ref.smMax (F := Ideal) (lg m d)) (ix1 n) = (sure m d (px n) : EReal) :=
  Ref.smMax_at (lg m d) (px n) (re m d (px n)) (win m d (px n)).toNat (win_first _) (re_at h _)

/-- A pixel's key in the kernel: twice the number of inner bounds below its confidence, and one more for a hit. -/
theorem key_line (h : Real m d) (n : Fin 2097152) : ∃ q : ℕ, (OnIdeal.keyL m d (ix1 n)).toNat = 2 * q + (if win m d (px n) = lb m d (px n) then 1 else 0)
    ∧ ∀ b, b < 10 → (q = b ↔ (bound (Ref.lin (F := Ideal)) b < (sure m d (px n) : EReal) ∧ (sure m d (px n) : EReal) ≤ bound (Ref.lin (F := Ideal)) (b + 1))) := by
  have e0 : OnIdeal.Vw (OnIdeal.W1 m) d main_arg0 = lg m d := OnIdeal.W1_arg0 m d
  have e1 : OnIdeal.Vw (OnIdeal.W1 m) d main_arg1 = lb m d := OnIdeal.W1_arg1 m d
  have eb : OnIdeal.Vw (OnIdeal.W1 m) d main_v0 = Ref.lin (F := Ideal) := bounds_same m d
  have k := OnIdeal.keyAt_nat (OnIdeal.Vw (OnIdeal.W1 m)) d (px n)
  rw [e0, e1, eb, psAt_sure h] at k
  refine ⟨_, ?_, fun b hb => bin_iff _ _ Ref.lin_rises ?_ ?_ b hb⟩
  · rw [OnIdeal.keyL_apply, OnIdeal.keyArr_eq]
    exact k
  · rw [Ref.lin_first]
    exact_mod_cast soft_pos _ _ _ (win_first (px n)).lt
  · rw [Ref.lin_last]
    exact_mod_cast soft_top_le _ _ (win_first (px n)).lt

/-- Which pixels the reference counts in a bin. -/
abbrev msk (m : (ℓ : Loc nD τ sig) → Buf (Elt Ideal) ℓ) (d : Dev nD) := Ref.mask (F := Ideal) (Ref.lin (F := Ideal)) (Ref.smMax (F := Ideal) (lg m d))
/-- Which pixels it counts as hits. -/
abbrev hits (m : (ℓ : Loc nD τ sig) → Buf (Elt Ideal) ℓ) (d : Dev nD) := Ref.hit (Ref.smArg (F := Ideal) (lg m d)) (lb m d)

theorem hit_line (h : Real m d) (n : Fin 2097152) : hits m d (ix1 n) = 1#1 ↔ win m d (px n) = lb m d (px n) := by
  have e := Ref.smArg_at (lg m d) (px n) (re m d (px n)) (win m d (px n)).toNat (win_first _) (re_at h _)
  have k : hits m d (ix1 n) = IntOp.cmpi .eq (Ref.smArg (F := Ideal) (lg m d) (px n)) (lb m d (px n)) := rfl
  rw [k, e, BitVec.ofNat_toNat, BitVec.setWidth_eq]
  show BitVec.ofBool (decide _) = 1#1 ↔ _
  by_cases hw : win m d (px n) = lb m d (px n) <;> simp [hw]

/-- The pixels of bin `b`: their keys are `2 b` and `2 b + 1`. -/
theorem bin_line (h : Real m d) (b : Fin 10) (n : Fin 2097152) : (OnIdeal.keyL m d (ix1 n)).toNat / 2 = b.val ↔ msk m d (ix2 b n) = 1#1 := by
  obtain ⟨q, hq, hb⟩ := key_line h n
  rw [Ref.mask_one, ref_line h n, ← hb b.val b.isLt, hq]
  split <;> omega

/-- Those of them that are hits: their key is `2 b + 1`. -/
theorem right_line (h : Real m d) (b : Fin 10) (n : Fin 2097152) :
    (OnIdeal.keyL m d (ix1 n)).toNat = 2 * b.val + 1 ↔ (msk m d (ix2 b n) = 1#1 ∧ hits m d (ix1 n) = 1#1) := by
  rw [← bin_line h b n, hit_line h n]
  obtain ⟨q, hq, -⟩ := key_line h n
  by_cases hw : win m d (px n) = lb m d (px n)
  · rw [if_pos hw] at hq; rw [hq]; simp only [hw, and_true]; omega
  · rw [if_neg hw] at hq; rw [hq]; simp only [hw, and_false, iff_false]; omega

/-! ## The bins -/

/-- A sum over the line's places by number is one over them. -/
theorem line_sum {α : Type} (f : Line.Idx → α) (g : α → EReal) :
    (∑ n ∈ Finset.range 2097152, g (at1 f n)) = ∑ n : Fin 2097152, g (f (ix1 n)) := by
  rw [Finset.sum_range]
  exact Finset.sum_congr rfl fun n _ => congrArg g (at1_of f (ix1 n) n.val rfl).symm

theorem conf_bin (h : Real m d) (b : ℕ) (hb : b < 10) : OnIdeal.confSum (OnIdeal.psL m d) (OnIdeal.keyL m d) b
    = Ref.entry (Ref.binSum (F := Ideal) (Ref.flatMax (F := Ideal) (Ref.smMax (F := Ideal) (lg m d))) (msk m d)) b := by
  rw [Ref.entry, dif_pos hb, Ref.binSum_at]
  unfold OnIdeal.confSum
  rw [Finset.sum_range]
  refine Finset.sum_congr rfl fun n _ => ?_
  rw [← at1_of (OnIdeal.keyL m d) (ix1 n) n.val rfl, ← at1_of (OnIdeal.psL m d) (ix1 n) n.val rfl, ref_line h, ps_line h]
  exact if_congr (bin_line h ⟨b, hb⟩ n) rfl rfl

theorem hit_bin (h : Real m d) (b : ℕ) (hb : b < 10) : OnIdeal.keyCount (OnIdeal.keyL m d) (2 * b + 1)
    = Ref.entry (Ref.binHit (F := Ideal) (msk m d) (hits m d)) b := by
  rw [Ref.entry, dif_pos hb, Ref.binHit_at]
  refine (line_sum (OnIdeal.keyL m d) fun k => if k.toNat = 2 * b + 1 then 1 else 0).trans (Finset.sum_congr rfl fun n _ => ?_)
  exact if_congr (right_line h ⟨b, hb⟩ n) rfl rfl

theorem count_bin (h : Real m d) (b : ℕ) (hb : b < 10) : OnIdeal.keyCount (OnIdeal.keyL m d) (2 * b) + OnIdeal.keyCount (OnIdeal.keyL m d) (2 * b + 1)
    = Ref.entry (Ref.binCnt (F := Ideal) (msk m d)) b := by
  rw [Ref.entry, dif_pos hb, Ref.binCnt_at]
  unfold OnIdeal.keyCount
  rw [← Finset.sum_add_distrib]
  refine (line_sum (OnIdeal.keyL m d) fun k => (if k.toNat = 2 * b then 1 else 0) + if k.toNat = 2 * b + 1 then 1 else 0).trans (Finset.sum_congr rfl fun n _ => ?_)
  rw [← if_congr (bin_line h ⟨b, hb⟩ n) rfl rfl]
  show (if (OnIdeal.keyL m d (ix1 n)).toNat = 2 * b then (1 : EReal) else 0) + (if (OnIdeal.keyL m d (ix1 n)).toNat = 2 * b + 1 then 1 else 0)
    = if (OnIdeal.keyL m d (ix1 n)).toNat / 2 = b then 1 else 0
  generalize (OnIdeal.keyL m d (ix1 n)).toNat = k
  by_cases h0 : k = 2 * b
  · rw [if_pos h0, if_neg (by omega), if_pos (by omega), add_zero]
  · rw [if_neg h0, zero_add]
    exact if_congr (by omega) rfl rfl

/-- The two results. -/
theorem result_same (h : Real m d) : (OnIdeal.W7 m d main_v8 : (⟨0, ![]⟩ : Shape).Idx → EReal) = Ref.refOut (F := Ideal) (lg m d) (lb m d) := by
  refine (OnIdeal.W7_v8 m d).trans ?_
  delta Ref.refOut
  beta_reduce
  refine Eq.trans ?_ (Ref.errOf_eq _ _ _).symm
  funext _
  exact Cal.calib_congr (conf_bin h) (count_bin h) (hit_bin h)

/-! ## The claim -/

/-- From memories that agree on finite logits and on the labels, the kernel and the reference both run, and end with the same
    calibration error and their arguments as they were. -/
theorem agrees : Cert.algebraic_KernelIdeal_ReferenceIdeal_pre_finite_logits := by
  intro m g m' g' hpre hin
  refine ⟨fun c => OnIdeal.W7 m c main_v8, (θ_run Cert.KernelIdeal.defs _ _).mono (fun _ h => h.1) (OnIdeal.run_main (F := Ideal) m g), ?_⟩
  refine θ_run_mono (Ref.run (F := Ideal) m' g') fun r h c => ?_
  obtain ⟨h0, h1, h2⟩ := h c
  refine ⟨h0.trans ?_, h1, h2⟩
  rw [(hin c).1, (hin c).2]
  exact (result_same (logits_real _ _ (hpre c))).symm

/-- The kernel's frame, under the precondition. -/
theorem framedK : Cert.quiescent_KernelIdeal_pre_finite_logits := fun m ρ _ => OnIdeal.framed m ρ True.intro

/-- The reference's frame, under the precondition. -/
theorem framedR : Cert.quiescent_ReferenceIdeal_pre_finite_logits := fun m ρ _ => Ref.framed m ρ True.intro

end Cert.Proof.Value

end
-- ==== Proof.lean ====
/-
  The claims, each from its module: the kernel's two frames (Proof/MainOnBits, Proof/MainOnIdeal), the reference's
  (Proof/RefRun), that the kernel is read as it is printed, and that kernel and reference end with one number (Proof/Value).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.RefRun
public import proofs.«01_k».proof.Proof.MainOnIdeal
public import proofs.«01_k».proof.Proof.MainOnBits
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, finiteFacts,
    OnBits.framed, OnIdeal.framed, Value.framedK, Ref.framed, Value.framedR, trivial, Value.agrees⟩

end Cert.Proof

end
